-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S65537 : Shape := ⟨1, ![65537]⟩
abbrev S65536 : Shape := ⟨1, ![65536]⟩
abbrev S2x6400000 : Shape := ⟨2, ![2, 6400000]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  slices_S65537_S65536_1 : S65537.Slices ![1] S65536
  slices_S65537_S65536_0 : S65537.Slices ![0] S65536

variable [Facts]

def fn {F : FTy → Type} [FloatOps F] (main_arg0 : IVec S65537 32) (main_arg1 : IVec S65536 32) (main_arg2 : IVec S65537 32) (main_arg3 : IVec S65536 1) (main_arg4 : IVec S2x6400000 32) (main_arg5 : IVec S65536 32) : IVec S_ 1 :=
  let main_c : IVec S_ 32 := constantI S_ 32 4294967295#32
  let main_v0 : IVec S65536 32 := broadcastInDim S65536 ![] bcast_S_S65536 main_c
  let main_v1 : IVec S65536 1 := cmpi .sge main_arg5 main_v0
  let main_c_0 : IVec S_ 1 := constantI S_ 1 1#1
  let main_v2 : IVec S_ 1 := (fun x v => Host.reduce IntOp.andi x v reducesTo_S65536_S_d0 h_S_) main_v1 main_c_0
  let main_c_1 : IVec S_ 32 := constantI S_ 32 6400000#32
  let main_v3 : IVec S65536 32 := broadcastInDim S65536 ![] bcast_S_S65536 main_c_1
  let main_v4 : IVec S65536 1 := cmpi .slt main_arg5 main_v3
  let main_c_2 : IVec S_ 1 := constantI S_ 1 1#1
  let main_v5 : IVec S_ 1 := (fun x v => Host.reduce IntOp.andi x v reducesTo_S65536_S_d0 h_S_) main_v4 main_c_2
  let main_v6 : IVec S_ 1 := andi main_v2 main_v5
  let main_v7 : IVec S65536 32 := (extractStridedSlice S65536 ![1] · slices_S65537_S65536_1) main_arg2
  let main_v8 : IVec S65536 32 := (extractStridedSlice S65536 ![0] · slices_S65537_S65536_0) main_arg2
  let main_v9 : IVec S65536 32 := subi main_v7 main_v8
  let main_c_3 : IVec S_ 32 := constantI S_ 32 0#32
  let main_v10 : IVec S65536 32 := broadcastInDim S65536 ![] bcast_S_S65536 main_c_3
  let main_v11 : IVec S65536 1 := cmpi .sle main_v9 main_v10
  let main_v12 : IVec S65536 32 := (extractStridedSlice S65536 ![0] · slices_S65537_S65536_0) main_arg2
  let main_v13 : IVec S65536 32 := iotaInDim S65536 32 0
  let main_v14 : IVec S65536 1 := cmpi .eq main_v12 main_v13
  let main_v15 : IVec S65536 1 := ori main_v11 main_v14
  let main_c_4 : IVec S_ 1 := constantI S_ 1 1#1
  let main_v16 : IVec S_ 1 := (fun x v => Host.reduce IntOp.andi x v reducesTo_S65536_S_d0 h_S_) main_v15 main_c_4
  let main_v17 : IVec S_ 1 := andi main_v6 main_v16
  main_v17
-- ==== Kernel.lean ====
abbrev S65537 : Shape := ⟨1, ![65537]⟩
abbrev S65536 : Shape := ⟨1, ![65536]⟩
abbrev S2x6400000 : Shape := ⟨2, ![2, 6400000]⟩
abbrev S6400000x2 : Shape := ⟨2, ![6400000, 2]⟩
abbrev S12800000 : Shape := ⟨1, ![12800000]⟩
abbrev S2048 : Shape := ⟨1, ![2048]⟩
abbrev S_ : Shape := ⟨0, ![]⟩
abbrev S16 : Shape := ⟨1, ![16]⟩
abbrev S128 : Shape := ⟨1, ![128]⟩

abbrev nBuf : Table → Nat
  | .hbm => 18
  | .local .scVector .vmem => 10
  | _ => 0

abbrev bufTy : (tb : Table) → Fin (nBuf tb) → BufTy
  | .hbm, ⟨0, _⟩ => ⟨S65537, .i32⟩
  | .hbm, ⟨1, _⟩ => ⟨S65536, .i32⟩
  | .hbm, ⟨2, _⟩ => ⟨S65537, .i32⟩
  | .hbm, ⟨3, _⟩ => ⟨S65536, .i1⟩
  | .hbm, ⟨4, _⟩ => ⟨S2x6400000, .i32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S6400000x2, .i32⟩
  | .hbm, ⟨10, _⟩ => ⟨S12800000, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S_, .i32⟩
  | .hbm, ⟨15, _⟩ => ⟨S65536, .i32⟩
  | .hbm, ⟨16, _⟩ => ⟨S65536, .i1⟩
  | .hbm, ⟨17, _⟩ => ⟨S65536, .i1⟩
  | .local .scVector .vmem, ⟨0, _⟩ => ⟨S2048, .i32⟩
  | .local .scVector .vmem, ⟨1, _⟩ => ⟨S2048, .i32⟩
  | .local .scVector .vmem, ⟨2, _⟩ => ⟨S2048, .i32⟩
  | .local .scVector .vmem, ⟨3, _⟩ => ⟨S2048, .i32⟩
  | .local .scVector .vmem, ⟨4, _⟩ => ⟨S2048, .i32⟩
  | .local .scVector .vmem, ⟨5, _⟩ => ⟨S2048, .i32⟩
  | .local .scVector .vmem, ⟨6, _⟩ => ⟨S2048, .i32⟩
  | .local .scVector .vmem, ⟨7, _⟩ => ⟨S2048, .i32⟩
  | .local .scVector .vmem, ⟨8, _⟩ => ⟨S2048, .i32⟩
  | .local .scVector .vmem, ⟨9, _⟩ => ⟨S2048, .i32⟩
  | _, _ => ⟨S65537, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_arg1_scv : Ref sig .scVector := ⟨.hbm, 1, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev main_v4_scv : Ref sig .scVector := ⟨.hbm, 10, rfl⟩
abbrev main_arg5_scv : Ref sig .scVector := ⟨.hbm, 5, rfl⟩
abbrev main_v5_0_scv : Ref sig .scVector := ⟨.hbm, 11, rfl⟩
abbrev main_v5_1_scv : Ref sig .scVector := ⟨.hbm, 12, rfl⟩
abbrev main_v5_2_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_1 : BitVec 32 := 0#32
  let c128_i32 : BitVec 32 := 128#32
  let v5 : BitVec 32 := Scalar.addi c0_i32_1 c128_i32
  let c1_i32_2 : BitVec 32 := 1#32
  ⟨c0_i32_1, v5, c1_i32_2⟩
def k0_off2 (k0_t1 : Fin k0_t1_loop.trips) : Fin 1 → Nat :=
  let c0_i32_1 : BitVec 32 := 0#32
  let c1_i32_2 : BitVec 32 := 1#32
  let arg22 : BitVec 32 := Scf.iv c0_i32_1 c1_i32_2 k0_t1
  let c16_i32 : BitVec 32 := 16#32
  let v103 : BitVec 32 := Scalar.muli arg22 c16_i32
  let v104 : Index := Scalar.indexCast v103
  ![v104.toNat]
@[reducible] def k0_t2_loop : Scf.Loop 32 :=
  let c0_i32_87 : BitVec 32 := 0#32
  let c128_i32_88 : BitVec 32 := 128#32
  let v102 : BitVec 32 := Scalar.addi c0_i32_87 c128_i32_88
  let c1_i32_89 : BitVec 32 := 1#32
  ⟨c0_i32_87, v102, c1_i32_89⟩
def k0_off3 (k0_t2 : Fin k0_t2_loop.trips) : Fin 1 → Nat :=
  let c0_i32_87 : BitVec 32 := 0#32
  let c1_i32_89 : BitVec 32 := 1#32
  let arg22 : BitVec 32 := Scf.iv c0_i32_87 c1_i32_89 k0_t2
  let c16_i32 : BitVec 32 := 16#32
  let v103 : BitVec 32 := Scalar.muli arg22 c16_i32
  let v104 : Index := Scalar.indexCast v103
  ![v104.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65537 : Shape := ⟨1, ![65537]⟩
abbrev S65536 : Shape := ⟨1, ![65536]⟩
abbrev S2x6400000 : Shape := ⟨2, ![2, 6400000]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S1x6400000 : Shape := ⟨2, ![1, 6400000]⟩
abbrev S6400000 : Shape := ⟨1, ![6400000]⟩

abbrev nBuf : Space → Nat
  | .hbm => 88
  | .vmem => 0
  | .smem => 0
  | _ => 0

abbrev bufTy : (tb : Table) → Fin (tcTables nBuf tb) → BufTy
  | .hbm, ⟨0, _⟩ => ⟨S65537, .i32⟩
  | .hbm, ⟨1, _⟩ => ⟨S65536, .i32⟩
  | .hbm, ⟨2, _⟩ => ⟨S65537, .i32⟩
  | .hbm, ⟨3, _⟩ => ⟨S65536, .i1⟩
  | .hbm, ⟨4, _⟩ => ⟨S2x6400000, .i32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i32⟩
  | .hbm, ⟨16, _⟩ => ⟨S_, .i32⟩
  | .hbm, ⟨17, _⟩ => ⟨S65536, .i32⟩
  | .hbm, ⟨18, _⟩ => ⟨S65536, .i1⟩
  | .hbm, ⟨19, _⟩ => ⟨S_, .i32⟩
  | .hbm, ⟨20, _⟩ => ⟨S65536, .i32⟩
  | .hbm, ⟨21, _⟩ => ⟨S65536, .i32⟩
  | .hbm, ⟨22, _⟩ => ⟨S65536, .i32⟩
  | .hbm, ⟨23, _⟩ => ⟨S65536x1, .i32⟩
  | .hbm, ⟨24, _⟩ => ⟨S1, .i32⟩
  | .hbm, ⟨25, _⟩ => ⟨S_, .i32⟩
  | .hbm, ⟨26, _⟩ => ⟨S65536x1, .i32⟩
  | .hbm, ⟨27, _⟩ => ⟨S65536x1, .i1⟩
  | .hbm, ⟨28, _⟩ => ⟨S1x1, .i32⟩
  | .hbm, ⟨29, _⟩ => ⟨S65536x1, .i32⟩
  | .hbm, ⟨30, _⟩ => ⟨S65536x1, .i1⟩
  | .hbm, ⟨31, _⟩ => ⟨S65536x1, .i1⟩
  | .hbm, ⟨32, _⟩ => ⟨S_, .i1⟩
  | .hbm, ⟨33, _⟩ => ⟨S65536, .i1⟩
  | .hbm, ⟨34, _⟩ => ⟨S65536, .i32⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S_, .i32⟩
  | .hbm, ⟨42, _⟩ => ⟨S65536, .i32⟩
  | .hbm, ⟨43, _⟩ => ⟨S65536, .i32⟩
  | .hbm, ⟨44, _⟩ => ⟨S65536, .i1⟩
  | .hbm, ⟨45, _⟩ => ⟨S65536, .i1⟩
  | .hbm, ⟨46, _⟩ => ⟨S_, .i32⟩
  | .hbm, ⟨47, _⟩ => ⟨S65536, .i32⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S65536, .i1⟩
  | .hbm, ⟨52, _⟩ => ⟨S65536, .i1⟩
  | .hbm, ⟨53, _⟩ => ⟨S_, .i32⟩
  | .hbm, ⟨54, _⟩ => ⟨S65536, .i32⟩
  | .hbm, ⟨55, _⟩ => ⟨S65536, .i32⟩
  | .hbm, ⟨56, _⟩ => ⟨S1x6400000, .i32⟩
  | .hbm, ⟨57, _⟩ => ⟨S6400000, .i32⟩
  | .hbm, ⟨58, _⟩ => ⟨S_, .i32⟩
  | .hbm, ⟨59, _⟩ => ⟨S65536, .i32⟩
  | .hbm, ⟨60, _⟩ => ⟨S65536, .i1⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S65536, .i32⟩
  | .hbm, ⟨65, _⟩ => ⟨S65536x1, .i32⟩
  | .hbm, ⟨66, _⟩ => ⟨S1, .i32⟩
  | .hbm, ⟨67, _⟩ => ⟨S_, .i32⟩
  | .hbm, ⟨68, _⟩ => ⟨S65536x1, .i32⟩
  | .hbm, ⟨69, _⟩ => ⟨S65536x1, .i1⟩
  | .hbm, ⟨70, _⟩ => ⟨S1x1, .i32⟩
  | .hbm, ⟨71, _⟩ => ⟨S65536x1, .i32⟩
  | .hbm, ⟨72, _⟩ => ⟨S65536x1, .i1⟩
  | .hbm, ⟨73, _⟩ => ⟨S65536x1, .i1⟩
  | .hbm, ⟨74, _⟩ => ⟨S_, .i1⟩
  | .hbm, ⟨75, _⟩ => ⟨S65536, .i1⟩
  | .hbm, ⟨76, _⟩ => ⟨S65536, .i32⟩
  | .hbm, ⟨77, _⟩ => ⟨S_, .i32⟩
  | .hbm, ⟨78, _⟩ => ⟨S65536, .i32⟩
  | .hbm, ⟨79, _⟩ => ⟨S65536, .i32⟩
  | .hbm, ⟨80, _⟩ => ⟨S65536, .i32⟩
  | .hbm, ⟨81, _⟩ => ⟨S65536, .i1⟩
  | .hbm, ⟨82, _⟩ => ⟨S65536, .i32⟩
  | .hbm, ⟨83, _⟩ => ⟨S65536, .i32⟩
  | .hbm, ⟨84, _⟩ => ⟨S_, .i32⟩
  | .hbm, ⟨85, _⟩ => ⟨S65536, .i32⟩
  | .hbm, ⟨86, _⟩ => ⟨S65536, .i1⟩
  | .hbm, ⟨87, _⟩ => ⟨S65536, .i1⟩
  | _, _ => ⟨S65537, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_c_4 : Ref sig .tc := ⟨.hbm, 35, rfl⟩
abbrev main_call1_v14 : Ref sig .tc := ⟨.hbm, 36, rfl⟩
abbrev main_v8 : Ref sig .tc := ⟨.hbm, 37, rfl⟩
abbrev main_c_1 : Ref sig .tc := ⟨.hbm, 38, rfl⟩
abbrev main_v9 : Ref sig .tc := ⟨.hbm, 39, rfl⟩
abbrev main_v10 : Ref sig .tc := ⟨.hbm, 40, rfl⟩
abbrev main_c_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call5_c : Ref sig .tc := ⟨.hbm, 58, rfl⟩
abbrev main_call5_v0 : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_v5 : Ref sig .tc := ⟨.hbm, 65, rfl⟩
abbrev main_call5_c_1 : Ref sig .tc := ⟨.hbm, 66, rfl⟩
abbrev main_call5_c_2 : Ref sig .tc := ⟨.hbm, 67, rfl⟩
abbrev main_call5_v6 : Ref sig .tc := ⟨.hbm, 68, rfl⟩
abbrev main_call5_v7 : Ref sig .tc := ⟨.hbm, 69, rfl⟩
abbrev main_call5_v8 : Ref sig .tc := ⟨.hbm, 70, rfl⟩
abbrev main_call5_v9 : Ref sig .tc := ⟨.hbm, 71, rfl⟩
abbrev main_call5_v10 : Ref sig .tc := ⟨.hbm, 72, rfl⟩
abbrev main_call5_v11 : Ref sig .tc := ⟨.hbm, 73, rfl⟩
abbrev main_call5_c_3 : Ref sig .tc := ⟨.hbm, 74, rfl⟩
abbrev main_call5_v12 : Ref sig .tc := ⟨.hbm, 75, rfl⟩
abbrev main_call5_v13 : Ref sig .tc := ⟨.hbm, 76, rfl⟩
abbrev main_call5_c_4 : Ref sig .tc := ⟨.hbm, 77, rfl⟩
abbrev main_call5_v14 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_c_6 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩

abbrev nD : Nat := 1
abbrev τ : Topo := Topo.v7x

variable {F : FTy → Type} [FloatOps F]
-- ==== Proof.Words.lean ====
/- What the graph step computes of one entry, as functions of 32-bit words.

   Every entry of the three results is a function of one word of each operand. These functions are
   spelt with the word operations the program itself uses, so that the program's vector expressions
   are these functions lane by lane. -/
module

public import Idealize.ShloMosaic.Lib.Tactic

@[expose] public section

noncomputable section

namespace Cert.GraphStep

open Idealize.ShloMosaic

/-- 1 where the action is an edge to follow, 0 where it is the stop action. -/
def moveW (a : BitVec 32) : BitVec 32 := Scalar.select (IntOp.cmpi .eq a 4294967295#32) 0#32 1#32

/-- The place, in the flattened and transposed edge table, of the target node of the action's edge
    (edge 0 stands in for the stop action). -/
def slotW (a : BitVec 32) : BitVec 32 :=
  IntOp.addi (IntOp.muli (Scalar.select (IntOp.cmpi .eq a 4294967295#32) 0#32 a) 2#32) 1#32

/-- 1 where the range of start nodes from `lo` to `hi` is not empty. -/
def startW (hi lo : BitVec 32) : BitVec 32 :=
  Scalar.select (IntOp.cmpi .sgt (IntOp.subi hi lo) 0#32) 1#32 0#32

/-- The node after the step: the target of the edge where there is a move, else the start node, or
    -1 where there is no start. -/
def nodeW (move start node target : BitVec 32) : BitVec 32 :=
  IntOp.addi (IntOp.muli move target)
    (IntOp.muli (IntOp.subi 1#32 move) (IntOp.subi (IntOp.muli start node) (IntOp.subi 1#32 start)))

/-- 1 where there is no start node or the entry is a dummy: the walk is over before it begins. -/
def overW (start dummy : BitVec 32) : BitVec 32 := IntOp.ori (IntOp.subi 1#32 start) dummy

/-- The number of steps taken: one where the walk was not over. -/
def countW (start dummy : BitVec 32) : BitVec 32 := IntOp.subi 1#32 (overW start dummy)

/-- 1 where the walk is over after the step. -/
def stopW (move start dummy : BitVec 32) : BitVec 32 := IntOp.ori (overW start dummy) (IntOp.subi 1#32 move)

end Cert.GraphStep
-- ==== Proof.GatherBatch.lean ====
/- Several indirect gathers outstanding on one DMA semaphore.

   A tile starts one indirect gather after another on the same semaphore and waits only afterwards. Every
   row of every gather credits the same number of units, so the rows of all the gathers together are one
   counted batch (`Transfers.Batch`): `n` row copies of `N` units each. This module proves the step that
   starts ONE gather of such a batch, which issues as many of its row copies as the gather has rows. -/
module

public import Idealize.ShloMosaic.Lib.Batch
public import Idealize.ShloMosaic.Lib.SparseCore.Stream
public import Idealize.ShloMosaic.Lib.Tactic

@[expose] public section

noncomputable section

namespace Cert.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batchBody)

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- Number `j` of a block of `o` numbers that starts at `k`, among `n` numbers. -/
def inBlock {n : ℕ} (k o : ℕ) (h : k + o ≤ n) (j : Fin o) : Fin n := ⟨k + j.val, by omega⟩

theorem inBlock_injective {n : ℕ} (k o : ℕ) (h : k + o ≤ n) : Function.Injective (inBlock k o h) := fun a b hab => by
  have := congrArg Fin.val hab
  exact Fin.ext (by simpa [inBlock] using this)

/-- What is still to do from `k` on is the block of the next `o`, and what is still to do after it. -/
theorem bigSep_pending_block {n : ℕ} (D : Fin n → sProp 𝕄) (k o : ℕ) (h : k + o ≤ n) :
    bigSep (pending k) D = iprop((bigSep Finset.univ fun j : Fin o => D (inBlock k o h j)) ∗ bigSep (pending (k + o)) D) := by
  have hset : pending (n := n) k
      = (Finset.univ : Finset (Fin o)).map ⟨inBlock k o h, inBlock_injective k o h⟩ ∪ pending (k + o) := by
    ext t
    simp only [pending, Finset.mem_filter, Finset.mem_univ, true_and, Finset.mem_union, Finset.mem_map, Function.Embedding.coeFn_mk]
    constructor
    · intro ht
      by_cases hlt : k + o ≤ t.val
      · exact Or.inr hlt
      · exact Or.inl ⟨⟨t.val - k, by omega⟩, Fin.ext (by simp only [inBlock]; omega)⟩
    · rintro (⟨j, rfl⟩ | ht)
      · simp only [inBlock]; omega
      · omega
  have hdis : Disjoint ((Finset.univ : Finset (Fin o)).map ⟨inBlock k o h, inBlock_injective k o h⟩) (pending (n := n) (k + o)) := by
    rw [Finset.disjoint_left]
    intro t ht
    obtain ⟨j, -, rfl⟩ := Finset.mem_map.mp ht
    have := j.isLt
    simp only [pending, Finset.mem_filter, Finset.mem_univ, true_and, Function.Embedding.coeFn_mk, inBlock]
    omega
  rw [hset, BI.bigSep_union hdis, BI.bigSep_map]
  rfl

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- Starting one gather of a batch of row copies, `k` of which have been issued. The tile holds, for every row
    `j` of the gather, the destination's row, a share of the list's entry that names the row, and a share of the
    source; the entries name rows that exist (`hin`). Row copy `k + j` of the batch is to deliver `D (k + j)`,
    which the written row and the two shares make (`hD`). Afterwards the batch has `o` more copies issued. -/
theorem wp_gatherInBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {cont : PUnit → Prog (TpuEff nD τ sig (Elt F) Λ c.2) α}
    {qo : PosShare TreeShare} (qk : Fin (s.size hg.axis') → PosShare TreeShare)
    {fs : Buf (Elt F) (src.view.loc c)} {fd : Buf (Elt F) (dst.view.loc c)} {fo : Buf (Elt F) (offs.view.loc c)}
    (ι : Ix) (N : ℕ) {n : ℕ} {D : Fin n → sProp 𝕄} {k u : ℕ}
    (hN : ∀ j, (dst.slice (s.rowRect hg.axis' j) (s.stride_rowRect hg.axis' j)).view.dmaCredit = N)
    (hk : k + s.size hg.axis' ≤ n) (hu : u ≤ k * N)
    (hin : ∀ x, (offs.view.read (Elt F) fo x).toNat < s₀.size hg.axis)
    (hD : ∀ j, iprop(((dst.view.loc c ↦[(dst.view.slice (s.rowRect hg.axis' j)).set]{fullShare}
                ((dst.view.slice (s.rowRect hg.axis' j)).write (Elt F) fd
                  (fun i => src.view.read (Elt F) fs (hg.rowIdx (rows (offs.view.read (Elt F) fo) hn hin j) i)) Finset.univ))
              ∗ (offs.view.loc c ↦[{offs.view.emb (si.rowMajor.symm (j.cast hn.symm))}]{qo} fo))
              ∗ (src.view.loc c ↦[src.view.set]{qk j} fs)) ⊢ D (inBlock k _ hk j)) :
    iprop((bigSep Finset.univ fun j =>
            iprop(((dst.view.loc c ↦[(dst.view.slice (s.rowRect hg.axis' j)).set]{fullShare} fd)
              ∗ (offs.view.loc c ↦[{offs.view.emb (si.rowMajor.symm (j.cast hn.symm))}]{qo} fo))
              ∗ (src.view.loc c ↦[src.view.set]{qk j} fs)))
        ∗ Batch EC c (.dma sem) ι N D k u)
      ⊢ iprop((Batch EC c (.dma sem) ι N D (k + s.size hg.axis') u -∗ wp frame (wpE defs 𝒱 c bd) Set.univ (cont ⟨⟩) Q)
          -∗ wp frame (wpE defs 𝒱 c bd) Set.univ (enqueueIndirectGather hp src dst hg offs hn sem hsrc he hsp hr >>= cont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  -- what a row's copy writes depends on the word it is served with, what it credits does not
  have hagree : S.RowsAgree := by
    intro j x y ρ ρ' hx hy
    obtain ⟨_, -, rfl⟩ := Option.map_eq_some_iff.mp hx
    obtain ⟨_, -, rfl⟩ := Option.map_eq_some_iff.mp hy
    rfl
  have hrow : ∀ j, S.row j (S.word fo j) = some (rd j) := fun j => by
    change (rowOf (s₀.size hg.axis) (offs.view.read (Elt F) fo (S.entry j))).map _ = _
    rw [rowOf_of_lt (hin _)]; rfl
  have htotal : ∑ j, (rd j).dst.view.dmaCredit = s.size hg.axis' * N := by
    rw [Finset.sum_congr rfl (fun j _ => hN j), Finset.sum_const, Finset.card_univ, Fintype.card_fin, smul_eq_mul]
  unfold Batch
  iintro ⟨Hrows, ⟨%γ, %γ₀, %κ, #Hinv, HI, H0, Hcred⟩⟩ Hk
  ihave HI' := (Entails.of_eq (bigSep_pending_block (fun t => count EC (γ t) 0) k (s.size hg.axis') hk)) $$ HI
  icases HI' with ⟨Hnow, HI⟩
  iapply (wp_enqueueIndirectDma 𝒱 c bd Set.univ (qo := qo) (fo := fo) (rd := rd) ι (s.size hg.axis' * N) hagree hrow htotal) $$ [Hrows Hnow]
  · -- every row: its list entry, and behind it what its copy takes along
    have hres : ∀ j, iprop(inv κ (batchBody EC (c, .dma sem) N D γ γ₀)
          ∗ ((((dst.view.loc c ↦[(dst.view.slice (s.rowRect hg.axis' j)).set]{fullShare} fd) ∗ S.heldEntry qo fo j)
            ∗ (src.view.loc c ↦[src.view.set]{qk j} fs)) ∗ count EC (γ (inBlock k _ hk j)) 0))
        ⊢ iprop(S.heldEntry qo fo j ∗ (S.heldEntry qo fo j -∗ rowRes c (rd j))) := fun j => by
      iintro ⟨#Hinv, ⟨⟨Hr, He⟩, Hs⟩, Hc⟩
      isplitl [He]; · iexact He
      iintro He
      unfold rowRes
      iexists qk j, fs, iprop((dst.view.loc c ↦[(dst.view.slice (s.rowRect hg.axis' j)).set]{fullShare}
        ((dst.view.slice (s.rowRect hg.axis' j)).write (Elt F) fd
          (fun i => src.view.read (Elt F) fs (hg.rowIdx (r j) i)) Finset.univ)) ∗ S.heldEntry qo fo j)
      isplitl [Hs]; · iexact Hs
      isplitl [Hr He]
      · iapply writeUpdate_frame
        isplitl [Hr]
        · iapply (pointsTo_writeUpdate c (v := dst.view.slice (s.rowRect hg.axis' j)) subset_rfl) $$ Hr
        · iexact He
      · have hc : ((rd j).dst.view.amount (.dma sem)) = N := hN j
        rw [hc]
        iapply (Transfers.batch_creditUpdate EC (γ₀ := γ₀) (D := D) (inBlock k _ hk j) (hD j))
        isplitr; · iexact Hinv
        iexact Hc
    unfold Stream.res
    ihave H := Transfers.bigSep_sep_in _ _ _ $$ [Hrows Hnow]; · isplitl [Hrows] <;> iassumption
    iapply (Transfers.bigSep_mono_pers Finset.univ _ _ _ fun j _ => hres j)
    isplitr; · iexact Hinv
    iexact H
  iintro Hcred'
  iapply Hk
  iexists γ, γ₀, κ
  isplitr; · iexact Hinv
  isplitl [HI]; · iexact HI
  isplitl [H0]; · iexact H0
  rw [show (k + s.size hg.axis') * N - u = (k * N - u) + s.size hg.axis' * N by rw [Nat.add_mul]; omega, ← tallyAt_add]
  icombine Hcred Hcred' as H
  iexact H

end Cert.GatherBatch

end
-- ==== Proof.Take.lean ====
/- A conjunction over an axis, and an array taken at an array of places with out-of-range places filled:
   what each is at one entry. -/
module

public import Idealize.ShloMosaic.Lib.Tactic
public import Idealize.ShloMosaic.Lib.StableHlo.Predicate

@[expose] public section

noncomputable section

namespace Cert.GraphStep

open Idealize.ShloMosaic Idealize.ShloMosaic.StableHlo.Predicate

/-- A conjunction of two bits is one exactly when both are. -/
theorem andi_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- A disjunction of two bits is one exactly when one of them is. -/
theorem ori_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- A running conjunction along a list is one exactly when its start and all its bits are. -/
theorem foldl_andi_one {ι : Type} (f : ι → BitVec 1) : ∀ (l : List ι) (r : BitVec 1),
    l.foldl (fun r i => IntOp.andi r (f i)) r = 1#1 ↔ r = 1#1 ∧ ∀ i ∈ l, f i = 1#1
  | [], r => by simp
  | i :: l, r => by
    rw [List.foldl_cons, foldl_andi_one f l, andi_one]
    simp only [List.mem_cons, forall_eq_or_imp]
    tauto

/-- A conjunction over axes is one at an entry exactly when its initial value and every bit that is
    reduced into the entry are. -/
theorem reduce_andi_one {s t u : Shape} {axes : List (Fin s.rank)} (x : IVec s 1) (init : IVec u 1) (h : s.ReducesTo axes t)
    (hu : 0 < u.numel) (j : t.Idx) :
    Host.reduce IntOp.andi x init h hu j = 1#1 ↔ init (Shape.Idx.first hu) = 1#1 ∧ ∀ i, h.drop i = j → x i = 1#1 := by
  rw [Host.reduce_eq_foldl, foldl_andi_one]
  refine and_congr_right fun _ => forall_congr' fun i => ?_
  rw [List.mem_filter, List.mem_map, decide_eq_true_eq]
  constructor
  · exact fun H hi => H ⟨⟨s.rowMajor i, List.mem_finRange _, s.rowMajor.symm_apply_apply i⟩, hi⟩
  · exact fun H hi => H hi.2

section Take

variable {N n : Nat} {u : Shape}
  (d : GatherDims ⟨1, ![N]⟩ ⟨2, ![n, 1]⟩ ⟨1, ![n]⟩)
  (hb : (⟨1, ![n]⟩ : Shape).BroadcastsInDim ⟨2, ![n, 1]⟩ ![0])
  (hr : (⟨2, ![n, 1]⟩ : Shape).ReducesTo [1] ⟨1, ![n]⟩) (hu : 0 < u.numel)
  (x : IVec ⟨1, ![N]⟩ 32) (ix zero big fill : IVec ⟨1, ![n]⟩ 32) (lo hi : IVec ⟨2, ![n, 1]⟩ 32) (one : IVec u 1)

/-- The places to take at, a negative one counted from the end, as a column. -/
def takePlaces : IVec ⟨2, ![n, 1]⟩ 32 :=
  broadcastInDim ⟨2, ![n, 1]⟩ ![0] hb (select (cmpi .slt ix zero) (addi ix big) ix)

/-- `x` taken at the places `ix`, and `fill` where a place is not between `lo` and `hi`. -/
def filledTake : IVec ⟨1, ![n]⟩ 32 :=
  select (Host.reduce IntOp.andi (andi (cmpi .sge (takePlaces hb ix zero big) lo) (cmpi .sle (takePlaces hb ix zero big) hi)) one hr hu)
    (Host.gather d x (takePlaces hb ix zero big)) fill

/-- A place in range that is not negative is taken as it is. -/
theorem takePlaces_apply (p : Fin n) (hz : zero (Shape.Idx.ofFin p) = 0#32) (hix : (ix (Shape.Idx.ofFin p)).toNat < 2 ^ 31) :
    takePlaces hb ix zero big (ixP p) = ix (Shape.Idx.ofFin p) := by
  unfold takePlaces
  rw [bcast_col1]
  show Scalar.select (IntOp.cmpi .slt (ix (Shape.Idx.ofFin p)) (zero (Shape.Idx.ofFin p))) _ (ix (Shape.Idx.ofFin p)) = _
  have hn : ¬IntOp.cmpi .slt (ix (Shape.Idx.ofFin p)) (zero (Shape.Idx.ofFin p)) = 1#1 := by
    rw [hz, slt_iff_toNat hix (by decide)]
    exact Nat.not_lt_zero _
  exact if_neg hn

/-- At a place in range the entry is `x`'s at that place. -/
theorem filledTake_apply (hcoll : d.collapsedSliceDims = [0]) (hob : d.operandBatchingDims = []) (hsim : d.startIndexMap = [0])
    (hivd : d.indexVectorDim = 1) (hN : 0 < N) (hN' : N ≤ 2 ^ 31) (hlo : ∀ q, lo q = 0#32) (hhi : ∀ q, hi q = BitVec.ofNat 32 (N - 1))
    (hone : ∀ q, one q = 1#1) (p : Fin n) (hz : zero (Shape.Idx.ofFin p) = 0#32) (hix : (ix (Shape.Idx.ofFin p)).toNat < N) :
    filledTake d hb hr hu x ix zero big fill lo hi one (Shape.Idx.ofFin p)
      = x (Shape.Idx.ofFin ⟨(ix (Shape.Idx.ofFin p)).toNat, hix⟩) := by
  have hix' : (ix (Shape.Idx.ofFin p)).toNat < 2 ^ 31 := hix.trans_le hN'
  have hpl := takePlaces_apply hb ix zero big p hz hix'
  have hin : Host.reduce IntOp.andi (andi (cmpi .sge (takePlaces hb ix zero big) lo) (cmpi .sle (takePlaces hb ix zero big) hi)) one hr hu
      (Shape.Idx.ofFin p) = 1#1 := by
    rw [reduce_andi_one]
    refine ⟨hone _, fun i hi' => ?_⟩
    have h0 : i 0 = p := by
      have hv : (hr.drop i 0 : Nat) = i 0 := Shape.ReducesTo.drop_apply_val hr i 0
      rw [hi'] at hv
      exact Fin.ext hv.symm
    have hi : i = ixP p := by
      funext b
      match b with
      | ⟨0, _⟩ => exact h0
      | ⟨1, _⟩ => exact Subsingleton.elim (α := Fin 1) _ _
    subst hi
    show IntOp.andi (IntOp.cmpi .sge (takePlaces hb ix zero big (ixP p)) (lo (ixP p)))
      (IntOp.cmpi .sle (takePlaces hb ix zero big (ixP p)) (hi (ixP p))) = 1#1
    have hm : (BitVec.ofNat 32 (N - 1)).toNat = N - 1 := by
      rw [BitVec.toNat_ofNat]; exact Nat.mod_eq_of_lt (by omega)
    rw [andi_one, hpl, hlo, hhi, sge_iff_toNat hix' (by decide), sle_iff_toNat hix' (by rw [hm]; omega), hm]
    exact ⟨Nat.zero_le _, by omega⟩
  show Scalar.select _ _ _ = _
  rw [hin]
  show Host.gather d x (takePlaces hb ix zero big) (Shape.Idx.ofFin p) = _
  rw [gather_take d hcoll hob hsim hivd x _ p hN]
  congr 2
  refine Fin.ext ?_
  show min (takePlaces hb ix zero big (ixP p)).toInt.toNat (N - 1) = _
  rw [hpl, toInt_eq_toNat_of_lt hix', Int.toNat_natCast]
  exact Nat.min_eq_left (by omega)

end Take

end Cert.GraphStep

end
-- ==== Proof.Range.lean ====
/- What the precondition says of one entry. -/
module

public import proofs.«01_k».proof.Proof.Gen.Pre_in_range
public import proofs.«01_k».proof.Proof.Take

@[expose] public section

noncomputable section

namespace Cert.GraphStep

open Idealize.ShloMosaic Idealize.ShloMosaic.StableHlo.Predicate
open Cert.Pre_in_range (S65536)

/-- A word that is at least -1 and less than a bound, both signed, is -1 or is less than the bound unsigned. -/
theorem action_cases {a : BitVec 32} (h : IntOp.cmpi .sge a 4294967295#32 = 1#1) (h' : IntOp.cmpi .slt a 6400000#32 = 1#1) :
    a = 4294967295#32 ∨ a.toNat < 6400000 := by
  simp only [IntOp.cmpi, ofBool_eq_one_iff, BitVec.sle, BitVec.slt, decide_eq_true_eq] at h h'
  have e : (4294967295#32).toInt = -1 := by decide
  have e' : (6400000#32).toInt = 6400000 := by decide
  rw [e] at h
  rw [e'] at h'
  rw [BitVec.toInt_eq_toNat_cond] at h h'
  have hl := a.isLt
  split at h <;> split at h' <;> first | omega | skip
  refine Or.inl (BitVec.eq_of_toNat_eq ?_)
  show a.toNat = 4294967295
  omega

/-- A signed difference is positive or it is not. -/
theorem sle_or_sgt {a : BitVec 32} (h : IntOp.cmpi .sgt a 0#32 = 1#1) : ¬IntOp.cmpi .sle a 0#32 = 1#1 := by
  simp only [IntOp.cmpi, ofBool_eq_one_iff, BitVec.sle, BitVec.slt, decide_eq_true_eq] at h ⊢
  omega

section

variable {F : FTy → Type} [FloatOps F] {a0 a2 : IVec Cert.Pre_in_range.S65537 32} {a1 a5 : IVec S65536 32} {a3 : IVec S65536 1}
  {a4 : IVec Cert.Pre_in_range.S2x6400000 32}

/-- Under the precondition every action is -1 or an edge's number, and where an entry has a start its first
    start is the entry's own number. -/
theorem range_of_pre (h : Cert.Pre_in_range.fn (F := F) a0 a1 a2 a3 a4 a5 = fun _ => 1#1) (i : S65536.Idx) :
    (a5 i = 4294967295#32 ∨ (a5 i).toNat < 6400000)
      ∧ (IntOp.cmpi .sgt (IntOp.subi (extractStridedSlice S65536 ![1] a2 Cert.Pre_in_range.Gen.slices_S65537_S65536_1 i)
            (extractStridedSlice S65536 ![0] a2 Cert.Pre_in_range.Gen.slices_S65537_S65536_0 i)) 0#32 = 1#1 →
          extractStridedSlice S65536 ![0] a2 Cert.Pre_in_range.Gen.slices_S65537_S65536_0 i = BitVec.ofNat 32 (i 0)) := by
  have h0 := congrFun h (Shape.Idx.first Cert.Pre_in_range.Gen.h_S_)
  unfold Cert.Pre_in_range.fn at h0
  have h1 := (andi_one _ _).mp h0
  have h2 := (andi_one _ _).mp h1.1
  have at1 := ((reduce_andi_one _ _ _ _ _).mp h2.1).2 i (funext fun a => a.elim0)
  have at2 := ((reduce_andi_one _ _ _ _ _).mp h2.2).2 i (funext fun a => a.elim0)
  have at3 := ((reduce_andi_one _ _ _ _ _).mp h1.2).2 i (funext fun a => a.elim0)
  refine ⟨action_cases at1 at2, fun hs => ?_⟩
  rcases (ori_one _ _).mp at3 with hle | heq
  · exact absurd hle (sle_or_sgt hs)
  · exact cmpi_eq_iff.mp heq

end

end Cert.GraphStep

end
-- ==== Proof.Step.lean ====
/- The step's words against the reference's words, one entry at a time. -/
module

public import Idealize.ShloMosaic.Lib.Pipeline.Value
public import proofs.«01_k».proof.Proof.Words
public import proofs.«01_k».proof.Proof.Take

@[expose] public section

noncomputable section

namespace Cert.GraphStep

open Idealize.ShloMosaic Idealize.ShloMosaic.StableHlo.Predicate

/-- Whether an action is the stop action, as a bit. -/
abbrev stopBit (a : BitVec 32) : BitVec 1 := IntOp.cmpi .eq a 4294967295#32
/-- Whether the range of start nodes from `lo` to `hi` is not empty, as a bit. -/
abbrev startBit (hi lo : BitVec 32) : BitVec 1 := IntOp.cmpi .sgt (IntOp.subi hi lo) 0#32

/-- The node after the step: where the action is an edge its target, and where it is the stop action the start
    node, or -1 without one. -/
theorem nodeW_eq (a hi lo n t : BitVec 32) :
    nodeW (moveW a) (startW hi lo) n t
      = Scalar.select (~~~ stopBit a) t (Scalar.select (startBit hi lo) n 4294967295#32) := by
  unfold nodeW moveW startW
  rcases BitVec.eq_zero_or_eq_one (stopBit a) with h | h <;> rcases BitVec.eq_zero_or_eq_one (startBit hi lo) with k | k <;>
    simp only [stopBit, startBit] at h k ⊢ <;>
    rw [h, k] <;>
    simp [Scalar.select, IntOp.addi, IntOp.muli, IntOp.subi]

/-- The number of steps: one exactly where there is a start and the entry is no dummy. -/
theorem countW_eq (hi lo : BitVec 32) (q : BitVec 1) :
    countW (startW hi lo) (q.setWidth 32) = IntOp.addi 0#32 ((~~~ IntOp.ori (~~~ startBit hi lo) q).setWidth 32) := by
  unfold countW overW startW
  rcases BitVec.eq_zero_or_eq_one q with rfl | rfl <;> rcases BitVec.eq_zero_or_eq_one (startBit hi lo) with k | k <;>
    simp only [startBit] at k ⊢ <;> rw [k] <;> decide

/-- The walk is over where it was over before, where the action is the stop action, and where ten steps were taken
    (never, since at most one is). -/
theorem stopW_eq (a hi lo : BitVec 32) (q : BitVec 1) :
    IntOp.cmpi .ne (stopW (moveW a) (startW hi lo) (q.setWidth 32)) 0#32
      = IntOp.ori (IntOp.ori (IntOp.ori (~~~ startBit hi lo) q) (stopBit a))
          (IntOp.cmpi .sge (IntOp.addi 0#32 ((~~~ IntOp.ori (~~~ startBit hi lo) q).setWidth 32)) 10#32) := by
  unfold stopW overW startW moveW
  rcases BitVec.eq_zero_or_eq_one (stopBit a) with h | h <;> rcases BitVec.eq_zero_or_eq_one q with rfl | rfl <;>
    rcases BitVec.eq_zero_or_eq_one (startBit hi lo) with k | k <;>
    simp only [stopBit, startBit] at h k ⊢ <;> rw [h, k] <;> decide

/-- The place an action stands for in the flattened table of edges: twice its edge and one, edge 0 standing in for
    the stop action. -/
theorem slotW_toNat {a : BitVec 32} (h : a = 4294967295#32 ∨ a.toNat < 6400000) :
    (slotW a).toNat = 2 * (Scalar.select (~~~ stopBit a) a 0#32).toNat + 1
      ∧ (Scalar.select (~~~ stopBit a) a 0#32).toNat < 6400000 := by
  have hs : Scalar.select (IntOp.cmpi .eq a 4294967295#32) 0#32 a = Scalar.select (~~~ stopBit a) a 0#32 := by
    rcases BitVec.eq_zero_or_eq_one (stopBit a) with k | k <;> simp only [stopBit] at k ⊢ <;> rw [k] <;> simp [Scalar.select]
  have hlt : (Scalar.select (~~~ stopBit a) a 0#32).toNat < 6400000 := by
    rcases h with rfl | h
    · decide
    · rcases BitVec.eq_zero_or_eq_one (stopBit a) with k | k <;> rw [k]
      · simpa [Scalar.select] using h
      · simp [Scalar.select]
  refine ⟨?_, hlt⟩
  unfold slotW
  rw [hs]
  generalize Scalar.select (~~~ stopBit a) a 0#32 = b at hlt
  simp only [IntOp.addi, IntOp.muli, BitVec.toNat_add, BitVec.toNat_mul, BitVec.toNat_ofNat]
  omega

/-- The place in a table of rows and columns at a row and a column. -/
def at2 {r c : Nat} (i : Fin r) (j : Fin c) : (⟨2, ![r, c]⟩ : Shape).Idx
  | ⟨0, _⟩ => i
  | ⟨1, _⟩ => j

/-- The flattened table of edges, transposed, at the place of an action is the second row's entry at its edge. -/
theorem table_apply {α : Type} (e : (⟨2, ![2, 6400000]⟩ : Shape).Idx → α)
    (h₁ : (⟨2, ![2, 6400000]⟩ : Shape).Transposes [1, 0] ⟨2, ![6400000, 2]⟩)
    (h₂ : (⟨2, ![6400000, 2]⟩ : Shape).ShapeCasts ⟨1, ![12800000]⟩)
    (h₃ : (⟨2, ![2, 6400000]⟩ : Shape).Slices ![1, 0] ⟨2, ![1, 6400000]⟩)
    (h₄ : (⟨2, ![1, 6400000]⟩ : Shape).ShapeCasts ⟨1, ![6400000]⟩)
    (j : (⟨1, ![12800000]⟩ : Shape).Idx) (k : Fin 6400000) (hj : (j 0 : Nat) = 2 * k + 1) :
    shapeCast ⟨1, ![12800000]⟩ (transpose ⟨2, ![6400000, 2]⟩ [1, 0] e h₁) h₂ j
      = shapeCast ⟨1, ![6400000]⟩ (extractStridedSlice ⟨2, ![1, 6400000]⟩ ![1, 0] e h₃) h₄ (Shape.Idx.ofFin k) := by
  have hl : shapeCast ⟨1, ![12800000]⟩ (transpose ⟨2, ![6400000, 2]⟩ [1, 0] e h₁) h₂ j = e (at2 1 k) := by
    rw [shapeCast_apply _ _ _ (at2 k (1 : Fin 2)) (by
      rw [Shape.rowMajor_val_two, Shape.rowMajor_val_one, hj]
      show (k : Nat) * 2 + 1 = _
      omega)]
    exact transpose_apply _ _ _ _ (at2 (1 : Fin 2) k) fun b => match b with
      | ⟨0, _⟩ => rfl
      | ⟨1, _⟩ => rfl
  have hr : shapeCast ⟨1, ![6400000]⟩ (extractStridedSlice ⟨2, ![1, 6400000]⟩ ![1, 0] e h₃) h₄ (Shape.Idx.ofFin k)
      = e (at2 1 k) := by
    rw [shapeCast_apply _ _ _ (at2 (0 : Fin 1) k) (by
      rw [Shape.rowMajor_val_two, Shape.rowMajor_val_one]
      show 0 * 6400000 + (k : Nat) = k
      omega)]
    exact extractStridedSlice_apply _ _ _ _ (at2 (1 : Fin 2) k) fun a => match a with
      | ⟨0, _⟩ => rfl
      | ⟨1, _⟩ => (Nat.zero_add _).symm
  rw [hl, hr]

end Cert.GraphStep

end
-- ==== Proof.KernelIdeal.Setup.lean ====
/- The vocabulary of the proof about `Cert.Kernel`: the program as the launch theorem sees it, the
   arrays, the part of each array that belongs to one tile, and what the three results hold. -/
module

public import proofs.«01_k».proof.Proof.Kernel.Setup
public import proofs.«01_k».proof.Defs
public import proofs.«01_k».proof.Proof.Words
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_in_range

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores of the handshakes are distinct and live as long as the program. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- A column of 65536 words, a tile's window of 2048 of them, and the flattened edge table. -/
abbrev Col : Type := S65536.Idx → BitVec 32
abbrev Win : Type := S2048.Idx → BitVec 32
abbrev Tab : Type := S12800000.Idx → BitVec 32

abbrev startLoc (d : Dev nD) : Loc nD τ sig := (SparseCore.T d).loc main_arg1
abbrev loLoc (d : Dev nD) : Loc nD τ sig := (SparseCore.T d).loc main_v0
abbrev hiLoc (d : Dev nD) : Loc nD τ sig := (SparseCore.T d).loc main_v1
abbrev dumLoc (d : Dev nD) : Loc nD τ sig := (SparseCore.T d).loc main_v2
abbrev edgeLoc (d : Dev nD) : Loc nD τ sig := (SparseCore.T d).loc main_v4
abbrev actLoc (d : Dev nD) : Loc nD τ sig := (SparseCore.T d).loc main_arg5
abbrev nodeLoc (d : Dev nD) : Loc nD τ sig := (SparseCore.T d).loc main_v5_0
abbrev countLoc (d : Dev nD) : Loc nD τ sig := (SparseCore.T d).loc main_v5_1
abbrev stopLoc (d : Dev nD) : Loc nD τ sig := (SparseCore.T d).loc main_v5_2

/-- The entry of the edge table at the place a word names. -/
def slot (k : BitVec 32) : S12800000.Idx := fun | 0 => ⟨k.toNat % 12800000, Nat.mod_lt _ (by decide)⟩

/-- The column of current nodes, from the columns of actions, range ends, start nodes and the edge table. -/
def nodeCol (act lo hi start : Col) (edge : Tab) : Col := fun i =>
  nodeW (moveW (act i)) (startW (hi i) (lo i)) (start i) (edge (slot (slotW (act i))))
/-- The column of step counts. -/
def countCol (lo hi dum : Col) : Col := fun i => countW (startW (hi i) (lo i)) (dum i)
/-- The column of the words that say whether the walk is over. -/
def stopCol (act lo hi dum : Col) : Col := fun i => stopW (moveW (act i)) (startW (hi i) (lo i)) (dum i)

/-! ## One tile's part -/

theorem div32 : 32 ∣ S65536.size 0 := ⟨2048, rfl⟩
/-- The window of 2048 entries of a column that worker `w` has. -/
abbrev part (w : Fin 32) : Rect S65536 := Rect.part (s := S65536) (a₀ := 0) div32 w
/-- Its entries. -/
abbrev partSet (w : Fin 32) : Finset S65536.Idx := (part w).set

/-- The two coordinates as the core and the tile of a device. -/
abbrev cV (L : grid0.Coords) : Fin τ.nSC := (L 0).castLE hcore0
abbrev jV (L : grid0.Coords) : Fin τ.nSub := (L 1).castLE hsub0

/-- The worker's number at a pair of coordinates: twice the tile plus the core. -/
def wk (L : grid0.Coords) : Fin 32 :=
  ⟨2 * (L 1).val + (L 0).val, by
    have h0 : (L 0).val < 2 := (L 0).isLt
    have h1 : (L 1).val < 16 := (L 1).isLt
    omega⟩

/-- The rectangle the program slices a column by. -/
abbrev winK (L : grid0.Coords) : Rect S65536 := Rect.unit (s := S65536) (k0_off1 L) S2048.size (k0_off1_inb L)

theorem winK_eq (L : grid0.Coords) : winK L = part (wk L) := by
  unfold winK part Rect.part Rect.block
  congr 1 <;> funext a
  · rw [k0_off1_eq]
    match a with
    | 0 => simp [Shape.partIx, Shape.partSize, wk]; omega
  · match a with
    | 0 => simp [Shape.partSize]

/-- The share of the edge table that worker `w` reads by. -/
abbrev edgeQ (w : Fin 32) : PosShare TreeShare := pieceOf fullShare 32 (by decide) w

/-- What worker `w` has of the arrays: its window of every column, its share of the edge table. The three
    columns of results hold `f0`, `f1`, `f2` on the window. -/
def taskRes (d : Dev nD) (w : Fin 32) (act lo hi dum start : Col) (edge : Tab) (f0 f1 f2 : Col) : sProp 𝕄 :=
  iprop((actLoc d ↦[partSet w]{fullShare} act) ∗ (loLoc d ↦[partSet w]{fullShare} lo) ∗ (hiLoc d ↦[partSet w]{fullShare} hi)
    ∗ (dumLoc d ↦[partSet w]{fullShare} dum) ∗ (startLoc d ↦[partSet w]{fullShare} start) ∗ (edgeLoc d ↦{edgeQ w} edge)
    ∗ (nodeLoc d ↦[partSet w]{fullShare} f0) ∗ (countLoc d ↦[partSet w]{fullShare} f1) ∗ (stopLoc d ↦[partSet w]{fullShare} f2))

instance taskRes_storable (d : Dev nD) (w : Fin 32) (act lo hi dum start : Col) (edge : Tab) (f0 f1 f2 : Col) :
    BI.Storable (upEmb : UEmb _ 𝕄) (taskRes d w act lo hi dum start edge f0 f1 f2) := by
  unfold taskRes; infer_instance

/-! ## A tile's own buffers and semaphores -/

/-- Members of a set, listed without repetition, can be taken out of a separating conjunction over the set. -/
theorem bigSep_peel {T : Type} [DecidableEq T] (Φ : T → sProp 𝕄) : ∀ (l : List T) (A : Finset T), l.Nodup → (∀ x ∈ l, x ∈ A) →
    bigSep A Φ = l.foldr (fun x R => iprop(Φ x ∗ R)) (bigSep (A \ l.toFinset) Φ)
  | [], A, _, _ => by simp
  | x :: l, A, hn, hm => by
    rw [SparseCore.bigSep_erase' (hm x List.mem_cons_self), List.foldr_cons,
      bigSep_peel Φ l (A.erase x) (List.nodup_cons.mp hn).2 fun y hy =>
        Finset.mem_erase.mpr ⟨fun e => (List.nodup_cons.mp hn).1 (e ▸ hy), hm y (List.mem_cons_of_mem _ hy)⟩]
    congr 3
    ext y
    simp only [Finset.mem_sdiff, Finset.mem_erase, List.mem_toFinset, List.mem_cons, not_or]
    tauto

section Tile

variable (d : Dev nD) (c : Fin τ.nSC) (j : Fin τ.nSub)

/-- The nine transfer semaphores a tile uses: the gathers' one, then one for each copy in or out. -/
abbrev tileSems : List (DmaSem sig) :=
  [cc0_scratch10.sem, cc0_scoped0.sem, cc0_scoped1.sem, cc0_scoped2.sem, cc0_scoped3.sem, cc0_scoped4.sem, cc0_scoped5.sem,
    cc0_scoped6.sem, cc0_scoped7.sem]
/-- The ten buffers of a tile. -/
abbrev tileBufs : List (Ref sig .scVector) :=
  [cc0_scratch0, cc0_scratch1, cc0_scratch2, cc0_scratch3, cc0_scratch4, cc0_scratch5, cc0_scratch6, cc0_scratch7, cc0_scratch8, cc0_scratch9]

theorem tileBufs_nodup : tileBufs.Nodup := by decide

abbrev cellAt (s : DmaSem sig) : GSem nD τ sig := (V d c j, .dma s)

/-- What a tile owns of semaphores beside the nine. -/
def restSems : sProp 𝕄 := bigSep (ownCells (V d c j) \ (tileSems.map (cellAt d c j)).toFinset) fun g => semVal g 0
/-- What a tile owns of buffers beside the ten. -/
def restBufs : sProp 𝕄 :=
  bigSep (ownRefs (τ := τ) (.scVector c j) \ (tileBufs.map (Proc.scVector c j).devRef).toFinset) fun b => iprop(∃ f, ((d, b) : Loc nD τ sig) ↦{fullShare} f)

theorem mem_tileSems : ∀ x ∈ tileSems.map (cellAt d c j), x ∈ ownCells (V d c j) := fun x hx => by
  obtain ⟨s, hs, rfl⟩ := List.mem_map.mp hx
  refine mem_ownCells.mpr ⟨rfl, ?_⟩
  show (SemLoc.dma s : SemLoc sig).isScoped .scVector = true
  clear hx; revert s; decide

theorem ownSems0_tile :
    (ownSems0 (V d c j) : sProp 𝕄)
      = iprop(semVal (V d c j, SemLoc.dma cc0_scratch10.sem) 0 ∗ semVal (V d c j, SemLoc.dma cc0_scoped0.sem) 0
          ∗ semVal (V d c j, SemLoc.dma cc0_scoped1.sem) 0 ∗ semVal (V d c j, SemLoc.dma cc0_scoped2.sem) 0
          ∗ semVal (V d c j, SemLoc.dma cc0_scoped3.sem) 0 ∗ semVal (V d c j, SemLoc.dma cc0_scoped4.sem) 0
          ∗ semVal (V d c j, SemLoc.dma cc0_scoped5.sem) 0 ∗ semVal (V d c j, SemLoc.dma cc0_scoped6.sem) 0
          ∗ semVal (V d c j, SemLoc.dma cc0_scoped7.sem) 0 ∗ restSems d c j) := by
  unfold SparseCore.Cfg.ownSems0 restSems
  rw [bigSep_peel (fun g => semVal g 0) (tileSems.map (cellAt d c j)) _
    (List.Nodup.map (fun a b h => by simpa [cellAt] using h) (by decide)) (mem_tileSems d c j)]
  simp only [tileSems, List.map_cons, List.map_nil, List.foldr_cons, List.foldr_nil]

/-- One buffer of a tile, at contents that are not known. -/
abbrev someBuf (b : Ref sig .scVector) : sProp 𝕄 := iprop(∃ f, (V d c j).loc b ↦{fullShare} f)

theorem mem_tileBufs : ∀ x ∈ tileBufs.map (Proc.scVector c j).devRef, x ∈ ownRefs (τ := τ) (sig := sig) (.scVector c j) := fun x hx => by
  obtain ⟨b, hb, rfl⟩ := List.mem_map.mp hx
  simp only [tileBufs, List.mem_cons, List.not_mem_nil, or_false] at hb
  rcases hb with rfl | rfl | rfl | rfl | rfl | rfl | rfl | rfl | rfl | rfl <;>
    exact SparseCore.Cfg.mem_ownRefs_of_owner (p := Proc.scVector c j) rfl

theorem ownBufs_tile :
    (ownBufs (V d c j) : sProp 𝕄)
      = iprop(someBuf d c j cc0_scratch0 ∗ someBuf d c j cc0_scratch1 ∗ someBuf d c j cc0_scratch2 ∗ someBuf d c j cc0_scratch3
          ∗ someBuf d c j cc0_scratch4 ∗ someBuf d c j cc0_scratch5 ∗ someBuf d c j cc0_scratch6 ∗ someBuf d c j cc0_scratch7
          ∗ someBuf d c j cc0_scratch8 ∗ someBuf d c j cc0_scratch9 ∗ restBufs d c j) := by
  unfold SparseCore.Cfg.ownBufs restBufs
  rw [bigSep_peel (fun b => iprop(∃ f, ((d, b) : Loc nD τ sig) ↦{fullShare} f)) (tileBufs.map (Proc.scVector c j).devRef) _
    (List.Nodup.map (Proc.devRef_injective _) tileBufs_nodup) (mem_tileBufs c j)]
  simp only [tileBufs, List.map_cons, List.map_nil, List.foldr_cons, List.foldr_nil]

end Tile

/-! ## The program's vector expressions, lane by lane -/

variable [FloatOps F]

/-- A cast of sixteen lanes to sixteen lanes changes nothing. -/
theorem lanes_cast {α : Type} (v : S16.Idx → α) (h : S16.ShapeCasts S16) : shapeCast S16 v h = v :=
  funext fun y => congrArg v (Shape.reshapeEquiv_self _ y)

theorem pay5_apply (v : Vec F S16 .i32) (y : S16.Idx) : k0_pay5 (F := F) v y = slotW (v y) := by
  simp only [k0_pay5, k0_pay4, k0_pay3, k0_pay2, k0_pay1, lanes_cast]; rfl
theorem pay6_apply (v : Vec F S16 .i32) (y : S16.Idx) : k0_pay6 (F := F) v y = moveW (v y) := by
  simp only [k0_pay6, k0_pay4, k0_pay3, k0_pay2, k0_pay1, lanes_cast]; rfl
theorem pay7_apply (hi lo : Vec F S16 .i32) (y : S16.Idx) : k0_pay7 (F := F) hi lo y = startW (hi y) (lo y) := by
  simp only [k0_pay7, k0_pay2, k0_pay1, lanes_cast]; rfl
theorem pay13_apply (mv st nd tg : Vec F S16 .i32) (y : S16.Idx) :
    k0_pay13 (F := F) k0_pay2 mv st nd tg y = nodeW (mv y) (st y) (nd y) (tg y) := by
  simp only [k0_pay13, k0_pay12, k0_pay10, k0_pay9, k0_pay8, k0_pay2, lanes_cast]; rfl
theorem pay14_apply (st dm : Vec F S16 .i32) (y : S16.Idx) : k0_pay14 (F := F) k0_pay2 st dm y = countW (st y) (dm y) := by
  simp only [k0_pay14, k0_pay11, k0_pay10, k0_pay9, k0_pay2, lanes_cast]; rfl
theorem pay15_apply (mv st dm : Vec F S16 .i32) (y : S16.Idx) :
    k0_pay15 (F := F) k0_pay2 mv st dm y = stopW (mv y) (st y) (dm y) := by
  simp only [k0_pay15, k0_pay12, k0_pay11, k0_pay10, k0_pay9, k0_pay8, k0_pay2, lanes_cast]; rfl

end Cert.KernelIdealRun
-- ==== Proof.KernelIdeal.Split.lean ====
/- The arrays are dealt to the 32 tiles and gathered back: nine whole arrays are the same as the tiles'
   parts of them, the tiles counted by core and by number within the core. -/
module

public import proofs.«01_k».proof.Proof.Kernel.Split
public import proofs.«01_k».proof.Proof.KernelIdeal.Setup

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A core and a tile's number within it, as a place of the kernel's grid. -/
def place (c : Fin (grid0.bound 0)) (s : Fin (grid0.bound 1)) : grid0.Coords :=
  fun | 0 => c | 1 => s | ⟨_ + 2, h⟩ => absurd h (Nat.not_lt.2 (Nat.le_add_left _ _))

/-- The tiles of the two cores are the 32 workers. -/
def workers : Fin 2 × Fin 16 ≃ Fin 32 := (Equiv.prodComm _ _).trans finProdFinEquiv

theorem wk_place (c : Fin 2) (s : Fin 16) : wk (place c s) = workers (c, s) := by
  refine Fin.ext ?_
  show 2 * s.val + c.val = c.val + 2 * s.val
  omega

/-- A whole column is the windows of all the workers. -/
theorem col_parts {ℓ : Loc nD τ sig} (A : Fin 32 → Finset (Idx ℓ))
    (hd : ∀ i ∈ (Finset.univ : Finset (Fin 32)), ∀ j ∈ (Finset.univ : Finset (Fin 32)), i ≠ j → Disjoint (A i) (A j))
    (hc : Finset.univ.biUnion A = Finset.univ) (f : Buf (Elt F) ℓ) :
    (ℓ ↦{fullShare} f : sProp 𝕄) = bigSep Finset.univ fun w : Fin 32 => ℓ ↦[A w]{fullShare} f := by
  rw [← pointsTo_biUnion Finset.univ (ℓ := ℓ) A hd, hc]

theorem parts_disjoint :
    ∀ i ∈ (Finset.univ : Finset (Fin 32)), ∀ j ∈ (Finset.univ : Finset (Fin 32)), i ≠ j → Disjoint (partSet i) (partSet j) :=
  fun _ _ _ _ h => Rect.part_disjoint div32 h
theorem parts_cover : (Finset.univ : Finset (Fin 32)).biUnion partSet = Finset.univ := Rect.biUnion_part div32

/-- The whole edge table is the shares of it of all the workers. -/
theorem tab_shares (d : Dev nD) (edge : Tab) :
    (edgeLoc d ↦{fullShare} edge : sProp 𝕄) = bigSep Finset.univ fun w : Fin 32 => edgeLoc d ↦{edgeQ w} edge :=
  pointsTo_piecesOf (ℓ := edgeLoc d) (Val := Elt F) Finset.univ edge (by decide) fullShare

/-- The nine arrays whole: six of operands, then the three of results at `f0`, `f1`, `f2`. -/
def wholeRes (d : Dev nD) (act lo hi dum start : Col) (edge : Tab) (f0 f1 f2 : Col) : sProp 𝕄 :=
  iprop((actLoc d ↦{fullShare} act) ∗ (loLoc d ↦{fullShare} lo) ∗ (hiLoc d ↦{fullShare} hi)
    ∗ (dumLoc d ↦{fullShare} dum) ∗ (startLoc d ↦{fullShare} start) ∗ (edgeLoc d ↦{fullShare} edge)
    ∗ (nodeLoc d ↦{fullShare} f0) ∗ (countLoc d ↦{fullShare} f1) ∗ (stopLoc d ↦{fullShare} f2))

/-- The nine arrays whole are what the 32 workers have of them. -/
theorem wholeRes_workers (d : Dev nD) (act lo hi dum start : Col) (edge : Tab) (f0 f1 f2 : Col) :
    (wholeRes d act lo hi dum start edge f0 f1 f2 : sProp 𝕄)
      = bigSep Finset.univ fun w : Fin 32 => taskRes d w act lo hi dum start edge f0 f1 f2 := by
  unfold wholeRes taskRes
  simp only [bigSep_sep']
  rw [col_parts (ℓ := actLoc d) partSet parts_disjoint parts_cover act, col_parts (ℓ := loLoc d) partSet parts_disjoint parts_cover lo,
    col_parts (ℓ := hiLoc d) partSet parts_disjoint parts_cover hi, col_parts (ℓ := dumLoc d) partSet parts_disjoint parts_cover dum,
    col_parts (ℓ := startLoc d) partSet parts_disjoint parts_cover start,
    col_parts (ℓ := nodeLoc d) partSet parts_disjoint parts_cover f0, col_parts (ℓ := countLoc d) partSet parts_disjoint parts_cover f1,
    col_parts (ℓ := stopLoc d) partSet parts_disjoint parts_cover f2,
    tab_shares]

/-- The nine arrays whole are what the tiles of the two cores have of them. -/
theorem wholeRes_tiles (d : Dev nD) (act lo hi dum start : Col) (edge : Tab) (f0 f1 f2 : Col) :
    (wholeRes d act lo hi dum start edge f0 f1 f2 : sProp 𝕄)
      = bigSep Finset.univ fun c : Fin 2 => bigSep Finset.univ fun s : Fin 16 =>
          taskRes d (wk (place c s)) act lo hi dum start edge f0 f1 f2 := by
  rw [wholeRes_workers, bigSep_univ_equiv workers, bigSep_univ_prod]
  exact bigSep_congr fun c _ => bigSep_congr fun s _ => by rw [wk_place]

end Cert.KernelIdealRun

end
-- ==== Proof.KernelIdeal.Held.lean ====
/- What the TensorCore holds at the three points of the program: at the launch, at the call (the operations
   before it done), and at the end (the call's three results in place and the operations after it done). -/
module

public import proofs.«01_k».proof.Proof.Kernel.Held
public import proofs.«01_k».proof.Proof.KernelIdeal.Split
public import Idealize.ShloMosaic.Lib.Pipeline.Frame

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A buffer of the TensorCore, as the device names it. -/
abbrev ref (b : Ref sig .tc) : DevRef τ sig := (Proc.tc : Proc τ).devRef b

/-- The nine arrays of the call, in the order in which `wholeRes` lists them. -/
abbrev arrays : List (Ref sig .tc) :=
  [main_arg5, main_v0, main_v1, main_v2, main_arg1, main_v4, main_v5_0, main_v5_1, main_v5_2]

theorem arrays_nodup : (arrays.map ref).Nodup := List.Nodup.map (f := ref) (fun _ _ h => Proc.devRef_injective (Proc.tc : Proc τ) h) (by decide)

/-- No buffer that the TensorCore names is scratch. -/
theorem held_all : Pipeline.ucRefs τ sig = StableHlo.tcRefs τ sig := by
  refine Finset.filter_true_of_mem fun b hb => ?_
  obtain ⟨r, -, rfl⟩ := Finset.mem_map.mp hb
  revert r; decide

/-- The arrays of the call, at the contents `V`. -/
abbrev callRes (d : Dev nD) (V : Valuation τ sig (Elt F)) : sProp 𝕄 :=
  wholeRes d (V (ref main_arg5)) (V (ref main_v0)) (V (ref main_v1)) (V (ref main_v2)) (V (ref main_arg1)) (V (ref main_v4))
    (V (ref main_v5_0)) (V (ref main_v5_1)) (V (ref main_v5_2))

/-- The buffers that are not arrays of the call. -/
def others : Finset (DevRef τ sig) := StableHlo.tcRefs τ sig \ (arrays.map ref).toFinset

/-- What the TensorCore holds is the arrays of the call and the other buffers. -/
theorem held_call (d : Dev nD) (V : Valuation τ sig (Elt F)) :
    (StableHlo.held (SparseCore.T d) (StableHlo.tcRefs τ sig) V : sProp 𝕄)
      = (arrays.map ref).foldr (fun b R => iprop((((d, b) : Loc nD τ sig) ↦{fullShare} V b) ∗ R))
          (bigSep others fun b => ((d, b) : Loc nD τ sig) ↦{fullShare} V b) := by
  unfold StableHlo.held others
  refine bigSep_peel (fun b => ((d, b) : Loc nD τ sig) ↦{fullShare} V b) (arrays.map ref) _ arrays_nodup fun x hx => ?_
  obtain ⟨b, -, rfl⟩ := List.mem_map.mp hx
  exact StableHlo.devRef_mem_tcRefs b

theorem held_take (d : Dev nD) (V : Valuation τ sig (Elt F)) :
    (StableHlo.held (SparseCore.T d) (StableHlo.tcRefs τ sig) V : sProp 𝕄)
      ⊢ iprop(callRes d V ∗ bigSep others fun b => ((d, b) : Loc nD τ sig) ↦{fullShare} V b) := by
  rw [held_call]
  simp only [arrays, List.map_cons, List.map_nil, List.foldr_cons, List.foldr_nil]
  iintro ⟨H1, H2, H3, H4, H5, H6, H7, H8, H9, HR⟩
  isplitr [HR]
  · unfold callRes wholeRes
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iexact HR

theorem held_give (d : Dev nD) (V : Valuation τ sig (Elt F)) :
    iprop(callRes d V ∗ bigSep others fun b => ((d, b) : Loc nD τ sig) ↦{fullShare} V b)
      ⊢ (StableHlo.held (SparseCore.T d) (StableHlo.tcRefs τ sig) V : sProp 𝕄) := by
  rw [held_call]
  simp only [arrays, List.map_cons, List.map_nil, List.foldr_cons, List.foldr_nil]
  unfold callRes wholeRes
  iintro ⟨⟨H1, H2, H3, H4, H5, H6, H7, H8, H9⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HR

/-- The contents `V` with the three results of the call computed from its operands. -/
def called (V : Valuation τ sig (Elt F)) : Valuation τ sig (Elt F) :=
  Function.update (Function.update (Function.update V
    (ref main_v5_0) (nodeCol (V (ref main_arg5)) (V (ref main_v0)) (V (ref main_v1)) (V (ref main_arg1)) (V (ref main_v4))))
    (ref main_v5_1) (countCol (V (ref main_v0)) (V (ref main_v1)) (V (ref main_v2))))
    (ref main_v5_2) (stopCol (V (ref main_arg5)) (V (ref main_v0)) (V (ref main_v1)) (V (ref main_v2)))

theorem ref_ne {b b' : Ref sig .tc} (h : b ≠ b') : ref b ≠ ref b' := fun e => h (Proc.devRef_injective _ e)

theorem called_of_ne (V : Valuation τ sig (Elt F)) {b : DevRef τ sig} (h0 : b ≠ ref main_v5_0) (h1 : b ≠ ref main_v5_1) (h2 : b ≠ ref main_v5_2) :
    called V b = V b := by
  unfold called
  rw [Function.update_of_ne h2, Function.update_of_ne h1, Function.update_of_ne h0]

/-- The call leaves every buffer of the TensorCore but its three results. -/
theorem called_ne (V : Valuation τ sig (Elt F)) {b : Ref sig .tc} (h0 : b ≠ main_v5_0) (h1 : b ≠ main_v5_1) (h2 : b ≠ main_v5_2) :
    called V (ref b) = V (ref b) := called_of_ne V (ref_ne h0) (ref_ne h1) (ref_ne h2)

theorem called_node (V : Valuation τ sig (Elt F)) :
    called V (ref main_v5_0) = nodeCol (V (ref main_arg5)) (V (ref main_v0)) (V (ref main_v1)) (V (ref main_arg1)) (V (ref main_v4)) := by
  unfold called
  rw [Function.update_of_ne (ref_ne (by decide)), Function.update_of_ne (ref_ne (by decide)), Function.update_self]
theorem called_count (V : Valuation τ sig (Elt F)) :
    called V (ref main_v5_1) = countCol (V (ref main_v0)) (V (ref main_v1)) (V (ref main_v2)) := by
  unfold called
  rw [Function.update_of_ne (ref_ne (by decide)), Function.update_self]
theorem called_stop (V : Valuation τ sig (Elt F)) :
    called V (ref main_v5_2) = stopCol (V (ref main_arg5)) (V (ref main_v0)) (V (ref main_v1)) (V (ref main_v2)) := by
  unfold called
  rw [Function.update_self]

/-- The arrays of the call with its results, put back among the other buffers. -/
theorem held_called (d : Dev nD) (V : Valuation τ sig (Elt F)) :
    iprop(wholeRes d (V (ref main_arg5)) (V (ref main_v0)) (V (ref main_v1)) (V (ref main_v2)) (V (ref main_arg1)) (V (ref main_v4))
        (nodeCol (V (ref main_arg5)) (V (ref main_v0)) (V (ref main_v1)) (V (ref main_arg1)) (V (ref main_v4)))
        (countCol (V (ref main_v0)) (V (ref main_v1)) (V (ref main_v2)))
        (stopCol (V (ref main_arg5)) (V (ref main_v0)) (V (ref main_v1)) (V (ref main_v2)))
      ∗ bigSep others fun b => ((d, b) : Loc nD τ sig) ↦{fullShare} V b)
      ⊢ (StableHlo.held (SparseCore.T d) (StableHlo.tcRefs τ sig) (called V) : sProp 𝕄) := by
  have hr : ∀ {b : Ref sig .tc}, b ∈ arrays → ∀ x ∈ others, x ≠ ref b := fun {b} hb x hx e =>
    (Finset.mem_sdiff.mp hx).2 (List.mem_toFinset.mpr (List.mem_map.mpr ⟨b, hb, e.symm⟩))
  have e : (bigSep others fun b => ((d, b) : Loc nD τ sig) ↦{fullShare} called V b : sProp 𝕄)
      = bigSep others fun b => ((d, b) : Loc nD τ sig) ↦{fullShare} V b :=
    bigSep_congr fun b hb => by
      rw [called_of_ne V (hr (by decide) b hb) (hr (by decide) b hb) (hr (by decide) b hb)]
  have h := held_give d (called V)
  unfold callRes at h
  rw [e, called_node, called_count, called_stop, called_ne V (b := main_arg5) (by decide) (by decide) (by decide),
    called_ne V (b := main_v0) (by decide) (by decide) (by decide), called_ne V (b := main_v1) (by decide) (by decide) (by decide),
    called_ne V (b := main_v2) (by decide) (by decide) (by decide), called_ne V (b := main_arg1) (by decide) (by decide) (by decide),
    called_ne V (b := main_v4) (by decide) (by decide) (by decide)] at h
  exact h

end Cert.KernelIdealRun

end
-- ==== Proof.KernelIdeal.Gathers.lean ====
/- The sixteen gathers of a tile.

   A tile computes 2048 places in the edge table, and fetches the words there by sixteen gathers of 128
   words each. All sixteen are started on one semaphore before the first wait. They are one counted batch
   of 2048 one-word copies: copy `t` reads place number `t` and writes word `t` of the target buffer. -/
module

public import proofs.«01_k».proof.Proof.Kernel.Gathers
public import proofs.«01_k».proof.Proof.KernelIdeal.Setup

@[expose] public section

noncomputable section

namespace Cert.KernelIdealRun

open Cert.KernelIdeal Cert.KernelIdeal.Gen Cert.GraphStep Cert.GatherBatch

open Idealize.ShloMosaic
open Idealize.ShloMosaic.SparseCore (S V T rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch pending)

variable {F : FTy → Type} [FloatOps F]

local notation "𝕄" => MT nD τ sig (HIx 1) (Elt F) ℕ UU ℕ
local notation "edgeV" => (Memref.whole Cert.KernelIdeal.main_v4_scv : Memref Cert.KernelIdeal.sig Kind.scVector Space.hbm Cert.KernelIdeal.S12800000 EltTy.i32)
local notation "idxV" => (Memref.whole Cert.KernelIdeal.cc0_scratch4 : Memref Cert.KernelIdeal.sig Kind.scVector Space.vmem Cert.KernelIdeal.S2048 EltTy.i32)
local notation "tgtV" => (Memref.whole Cert.KernelIdeal.cc0_scratch5 : Memref Cert.KernelIdeal.sig Kind.scVector Space.vmem Cert.KernelIdeal.S2048 EltTy.i32)

/-- All of the edge table, as the gathers address it. -/
abbrev edgeAll : Memref sig .scVector .hbm S12800000 .i32 :=
  (edgeV).slice (Rect.unit (s := S12800000) ![0] S12800000.size inb_S12800000_S12800000_0) (fun _ => rfl)
/-- 128 words from `o` on of the buffer of places. -/
abbrev idxAt (o : ℕ) (inb : ∀ a, (![o] : Fin 1 → ℕ) a + S128.size a ≤ S2048.size a) : Memref sig .scVector .vmem S128 .i32 :=
  (idxV).slice (Rect.unit (s := S2048) ![o] S128.size inb) (fun _ => rfl)
/-- 128 words from `o` on of the target buffer. -/
abbrev tgtAt (o : ℕ) (inb : ∀ a, (![o] : Fin 1 → ℕ) a + S128.size a ≤ S2048.size a) : Memref sig .scVector .vmem S128 .i32 :=
  (tgtV).slice (Rect.unit (s := S2048) ![o] S128.size inb) (fun _ => rfl)

/-- Word number `t` of a tile's buffer. -/
def pos (t : Fin 2048) : S2048.Idx := fun | 0 => t

theorem pos_bijective : Function.Bijective pos :=
  ⟨fun a b h => congrFun h 0, fun y => ⟨y 0, funext fun a => match a with | 0 => rfl⟩⟩

/-- What the gathers leave in the target buffer: at every word the edge table's word at the place there. -/
def gathered (places : Win) (edge : Tab) : Win := fun y => edge (slot (places y))

section Steps

variable (d : Dev nD) (c : Fin τ.nSC) (j : Fin τ.nSub) (q : PosShare TreeShare) (places old : Win) (edge : Tab)

/-- The share of the edge table that copy `t` reads by. -/
abbrev copyQ (t : Fin 2048) : PosShare TreeShare := pieceOf q 2048 (by decide) t

/-- What copy `t` needs: word `t` of the target buffer, the place it reads, its share of the edge table. -/
def before (t : Fin 2048) : sProp 𝕄 :=
  iprop((((tgtV).view.loc (V d c j) ↦[{pos t}]{fullShare} old) ∗ ((idxV).view.loc (V d c j) ↦[{pos t}]{fullShare} places))
    ∗ ((edgeAll).view.loc (V d c j) ↦[(edgeAll).view.set]{copyQ q t} edge))
/-- What copy `t` delivers: the same, word `t` of the target buffer written. -/
def after (t : Fin 2048) : sProp 𝕄 :=
  iprop((((tgtV).view.loc (V d c j) ↦[{pos t}]{fullShare} gathered places edge) ∗ ((idxV).view.loc (V d c j) ↦[{pos t}]{fullShare} places))
    ∗ ((edgeAll).view.loc (V d c j) ↦[(edgeAll).view.set]{copyQ q t} edge))

instance after_storable (t : Fin 2048) : BI.Storable (upEmb : UEmb _ 𝕄) (after (F := F) d c j q places edge t) := by
  unfold after; infer_instance

theorem edgeAll_set : (edgeAll).view.set = Finset.univ := by
  rw [View.set_slice]
  ext y
  simp only [Finset.mem_map, Finset.mem_univ, iff_true]
  refine ⟨y, Rect.mem_set_unit.mpr fun a => ?_, rfl⟩
  match a with
  | 0 => exact ⟨Nat.zero_le _, by have : (y 0).val < 12800000 := (y 0).isLt; simpa using this⟩

/-- The three buffers whole are what the 2048 copies need. -/
theorem before_all :
    (bigSep Finset.univ (before (F := F) d c j q places old edge))
      = iprop((((tgtV).view.loc (V d c j) ↦{fullShare} old) ∗ ((idxV).view.loc (V d c j) ↦{fullShare} places))
          ∗ ((edgeV).view.loc (V d c j) ↦{q} edge)) := by
  have ht := pointsTo_entries (Val := Elt F) (Ix := HIx 1) (Name := ℕ) (U := UU) (Lvl := ℕ) (V d c j) (tgtV).view pos pos_bijective fullShare old
  have hi := pointsTo_entries (Val := Elt F) (Ix := HIx 1) (Name := ℕ) (U := UU) (Lvl := ℕ) (V d c j) (idxV).view pos pos_bijective fullShare places
  have he := pointsTo_piecesOf (Val := Elt F) (Ix := HIx 1) (Name := ℕ) (U := UU) (Lvl := ℕ) (ℓ := (edgeAll).view.loc (V d c j)) (edgeAll).view.set edge
    (o := 2048) (by decide) q
  rw [edgeAll_set] at he
  unfold before
  rw [bigSep_sep', bigSep_sep', edgeAll_set]
  refine congrArg₂ BIBase.sep (congrArg₂ BIBase.sep ?_ ?_) he.symm
  · rw [show (tgtV).view.set = Finset.univ from View.set_whole _] at ht; exact ht.symm
  · rw [show (idxV).view.set = Finset.univ from View.set_whole _] at hi; exact hi.symm

/-- What the 2048 copies deliver are the three buffers whole, the target buffer gathered. -/
theorem after_all :
    (bigSep Finset.univ (after (F := F) d c j q places edge))
      = iprop((((tgtV).view.loc (V d c j) ↦{fullShare} gathered places edge) ∗ ((idxV).view.loc (V d c j) ↦{fullShare} places))
          ∗ ((edgeV).view.loc (V d c j) ↦{q} edge)) :=
  before_all d c j q places (gathered places edge) edge

variable {d c j q places old edge}

/-- Row `r` of the 128 words of the target buffer that a gather writes is one word of the buffer. -/
theorem tgtRow_emb {o : ℕ} (ho : o + 128 ≤ 2048) (inb : ∀ a, (![o] : Fin 1 → ℕ) a + S128.size a ≤ S2048.size a) (r : Fin 128)
    (y : (S128.rowShape (gathers_S12800000_S128).axis').Idx) :
    ((tgtAt o inb).view.slice (S128.rowRect (gathers_S12800000_S128).axis' r)).emb y = pos (inBlock o 128 ho r) := by
  funext a
  match a with
  | 0 =>
    apply Fin.ext
    show o + 1 * (r.val + 1 * (y (0 : Fin 1)).val) = o + r.val
    have : (y (0 : Fin 1)).val < 1 := (y (0 : Fin 1)).isLt
    omega

/-- The only word of a row. -/
def oneWord : (S128.rowShape (gathers_S12800000_S128).axis').Idx := fun (a : Fin 1) => match a with | 0 => (⟨0, Nat.one_pos⟩ : Fin 1)

theorem tgtRow_set {o : ℕ} (ho : o + 128 ≤ 2048) (inb : ∀ a, (![o] : Fin 1 → ℕ) a + S128.size a ≤ S2048.size a) (r : Fin 128) :
    ((tgtAt o inb).view.slice (S128.rowRect (gathers_S12800000_S128).axis' r)).set = {pos (inBlock o 128 ho r)} := by
  ext z
  simp only [View.set, Finset.mem_map, Finset.mem_univ, true_and, Finset.mem_singleton]
  constructor
  · rintro ⟨y, rfl⟩; exact tgtRow_emb ho inb r y
  · rintro rfl; exact ⟨oneWord, tgtRow_emb ho inb r _⟩

/-- Entry `r` of the list of 128 places that a gather reads is one word of the buffer of places. -/
theorem idxEntry {o : ℕ} (ho : o + 128 ≤ 2048) (inb : ∀ a, (![o] : Fin 1 → ℕ) a + S128.size a ≤ S2048.size a) (r : Fin 128) :
    (idxAt o inb).view.emb (S128.rowMajor.symm (r.cast (show S128.size (gathers_S12800000_S128).axis' = S128.numel from rfl))) = pos (inBlock o 128 ho r) := by
  funext a
  match a with
  | 0 =>
    apply Fin.ext
    have h := Shape.rowMajor_val_one (d := ![128]) (S128.rowMajor.symm (r.cast (show S128.size (gathers_S12800000_S128).axis' = S128.numel from rfl)))
    show o + 1 * _ = o + r.val
    rw [← h, Nat.one_mul]
    exact congrArg (o + ·) (congrArg Fin.val (Equiv.apply_symm_apply _ _))

/-- Starting one of the gathers, `o` copies being under way already: the next 128 are. -/
theorem gather_start {α : Type} {Q : α → sProp 𝕄} {o : ℕ} (ho : o + 128 ≤ 2048)
    (inb : ∀ a, (![o] : Fin 1 → ℕ) a + S128.size a ≤ S2048.size a)
    {hsrc : (edgeAll).view.WordExact} {he : EltTy.i32.bits = 32} {hsp : Space.hbm = .hbm ∨ Space.hbm = .shared} {hp : (V d c j : Thread nD τ).2.kind = .scVector}
    {hn : S128.numel = S128.size (gathers_S12800000_S128).axis'} {hr : S12800000.StreamRows 0}
    {cont : PUnit → Prog (TpuEff nD τ sig (Elt F) Λ₀ (V d c j : Thread nD τ).2) α}
    (hplaces : ∀ y, (places y).toNat < 12800000) :
    iprop(Batch countersEmb (V d c j) (.dma cc0_scratch10.sem) (none : HIx 1) 32 (after (F := F) d c j q places edge) o 0
        ∗ bigSep (pending o) (before (F := F) d c j q places old edge))
      ⊢ iprop((iprop(Batch countersEmb (V d c j) (.dma cc0_scratch10.sem) (none : HIx 1) 32 (after (F := F) d c j q places edge) (o + 128) 0
              ∗ bigSep (pending (o + 128)) (before (F := F) d c j q places old edge))
            -∗ wp frame (wpE (defs₀ (F := F)) 𝒱₀ (V d c j) none) Set.univ (cont ⟨⟩) Q)
          -∗ wp frame (wpE (defs₀ (F := F)) 𝒱₀ (V d c j) none) Set.univ
              (SparseCore.enqueueIndirectGather hp edgeAll (tgtAt o inb) gathers_S12800000_S128 (idxAt o inb) hn cc0_scratch10.sem hsrc he hsp hr >>= cont) Q) := by
  have hin : ∀ x, ((idxAt o inb).view.read (Elt F) places x).toNat < S12800000.size (gathers_S12800000_S128).axis := fun x => hplaces _
  rw [bigSep_pending_block (before (F := F) d c j q places old edge) o 128 ho]
  have hrow : ∀ r : Fin 128, (iprop((((tgtAt o inb).view.loc (V d c j) ↦[((tgtAt o inb).view.slice (S128.rowRect (gathers_S12800000_S128).axis' r)).set]{fullShare} old)
        ∗ ((idxAt o inb).view.loc (V d c j) ↦[{(idxAt o inb).view.emb (S128.rowMajor.symm (r.cast hn.symm))}]{fullShare} places))
        ∗ ((edgeAll).view.loc (V d c j) ↦[(edgeAll).view.set]{copyQ q (inBlock o 128 ho r)} edge)) : sProp 𝕄)
      = before (F := F) d c j q places old edge (inBlock o 128 ho r) := fun r => by
    rw [tgtRow_set ho inb r, idxEntry ho inb r]; rfl
  iintro ⟨HB, Hblk, Hrest⟩ Hk
  iapply (wp_gatherInBatch countersEmb 𝒱₀ (V d c j) none (qo := fullShare) (fs := edge) (fd := old) (fo := places) (fun r => copyQ q (inBlock o 128 ho r)) (none : HIx 1) 32 (D := after (F := F) d c j q places edge)
    (k := o) (u := 0) (fun _ => rfl) ho (Nat.zero_le _) hin ?_) $$ [HB Hblk]
  · intro r
    rw [tgtRow_set ho inb r, idxEntry ho inb r]
    unfold after
    refine Entails.of_eq (congrArg₂ BIBase.sep (congrArg₂ BIBase.sep (pointsTo_congr fun z hz => ?_) rfl) rfl)
    obtain rfl := Finset.mem_singleton.mp hz
    conv_lhs => rw [← tgtRow_emb ho inb r oneWord]
    refine (View.write_emb_of_mem _ _ (Finset.mem_univ _)).trans ?_
    show edge _ = edge _
    congr 1
    funext a
    match a with
    | 0 =>
      apply Fin.ext
      have hrow' := congrArg Fin.val (Shape.Gathers.rowIdx_axis gathers_S12800000_S128
        (rows ((idxAt o inb).view.read (Elt F) places) hn hin r) oneWord)
      have hword : (rows ((idxAt o inb).view.read (Elt F) places) hn hin r).val = (places (pos (inBlock o 128 ho r))).toNat :=
        congrArg (fun z => (places z).toNat) (idxEntry ho inb r)
      show 0 + 1 * _ = (places (pos (inBlock o 128 ho r))).toNat % 12800000
      rw [Nat.mod_eq_of_lt (hplaces _), ← hword, ← hrow', Nat.zero_add, Nat.one_mul]
      rfl
  · isplitl [Hblk]
    · iapply (Entails.of_eq (bigSep_congr fun r _ => (hrow r).symm)) $$ Hblk
    · iexact HB
  · iintro HB
    iapply Hk
    isplitl [HB]
    · iexact HB
    · iexact Hrest

/-- Waiting for one of the gathers, all being under way and `u` units having been waited for. -/
theorem gather_wait {α : Type} {Q : α → sProp 𝕄} {u : ℕ} (hu : u + 4096 ≤ 65536) {o : ℕ}
    (inb : ∀ a, (![o] : Fin 1 → ℕ) a + S128.size a ≤ S2048.size a)
    {hsrc : (edgeAll).view.WordExact} {hdst : (tgtAt o inb).view.WordExact} {O : CellTallies nD τ sig (HIx 1)} {W : Waits sig (HIx 1)}
    {k : PUnit → Prog (TpuEff nD τ sig (Elt F) Λ₀ (V d c j : Thread nD τ).2) α} :
    iprop(Batch countersEmb (V d c j) (.dma cc0_scratch10.sem) (none : HIx 1) 32 (after (F := F) d c j q places edge) 2048 u
        ∗ owes (V d c j) O W ∗ MayWait (V d c j) (SemLoc.dma cc0_scratch10.sem) (none : HIx 1) O)
      ⊢ iprop((iprop(Batch countersEmb (V d c j) (.dma cc0_scratch10.sem) (none : HIx 1) 32 (after (F := F) d c j q places edge) 2048 (u + 4096)
              ∗ owes (V d c j) O (insert (SemLoc.dma cc0_scratch10.sem, (none : HIx 1)) W))
            -∗ wp frame (wpE (defs₀ (F := F)) 𝒱₀ (V d c j) none) Set.univ (k ⟨⟩) Q)
          -∗ wp frame (wpE (defs₀ (F := F)) 𝒱₀ (V d c j) none) Set.univ
              (.op (.waitDma2 cc0_scratch10.sem edgeAll (tgtAt o inb) hsrc hdst) k) Q) :=
  Transfers.wp_waitBatchMulO countersEmb 𝒱₀ (V d c j) none (none : HIx 1) (N := 32) 128 rfl (by omega)

end Steps

end Cert.KernelIdealRun
-- ==== Proof.KernelIdeal.Loops.lean ====
/- The two counted loops of a tile. Each trip works on sixteen words of the tile's buffers. -/
module

public import proofs.«01_k».proof.Proof.Kernel.Loops
public import proofs.«01_k».proof.Proof.KernelIdeal.Gathers

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "startV" => (Memref.whole Cert.KernelIdeal.main_arg1_scv : Memref Cert.KernelIdeal.sig Kind.scVector Space.hbm Cert.KernelIdeal.S65536 EltTy.i32)
local notation "loV" => (Memref.whole Cert.KernelIdeal.main_v0_scv : Memref Cert.KernelIdeal.sig Kind.scVector Space.hbm Cert.KernelIdeal.S65536 EltTy.i32)
local notation "hiV" => (Memref.whole Cert.KernelIdeal.main_v1_scv : Memref Cert.KernelIdeal.sig Kind.scVector Space.hbm Cert.KernelIdeal.S65536 EltTy.i32)
local notation "dumV" => (Memref.whole Cert.KernelIdeal.main_v2_scv : Memref Cert.KernelIdeal.sig Kind.scVector Space.hbm Cert.KernelIdeal.S65536 EltTy.i32)
local notation "edgeV" => (Memref.whole Cert.KernelIdeal.main_v4_scv : Memref Cert.KernelIdeal.sig Kind.scVector Space.hbm Cert.KernelIdeal.S12800000 EltTy.i32)
local notation "actV" => (Memref.whole Cert.KernelIdeal.main_arg5_scv : Memref Cert.KernelIdeal.sig Kind.scVector Space.hbm Cert.KernelIdeal.S65536 EltTy.i32)
local notation "nodeV" => (Memref.whole Cert.KernelIdeal.main_v5_0_scv : Memref Cert.KernelIdeal.sig Kind.scVector Space.hbm Cert.KernelIdeal.S65536 EltTy.i32)
local notation "countV" => (Memref.whole Cert.KernelIdeal.main_v5_1_scv : Memref Cert.KernelIdeal.sig Kind.scVector Space.hbm Cert.KernelIdeal.S65536 EltTy.i32)
local notation "stopV" => (Memref.whole Cert.KernelIdeal.main_v5_2_scv : Memref Cert.KernelIdeal.sig Kind.scVector Space.hbm Cert.KernelIdeal.S65536 EltTy.i32)
local notation "b0" => (Memref.whole Cert.KernelIdeal.cc0_scratch0 : Memref Cert.KernelIdeal.sig Kind.scVector Space.vmem Cert.KernelIdeal.S2048 EltTy.i32)
local notation "b1" => (Memref.whole Cert.KernelIdeal.cc0_scratch1 : Memref Cert.KernelIdeal.sig Kind.scVector Space.vmem Cert.KernelIdeal.S2048 EltTy.i32)
local notation "b2" => (Memref.whole Cert.KernelIdeal.cc0_scratch2 : Memref Cert.KernelIdeal.sig Kind.scVector Space.vmem Cert.KernelIdeal.S2048 EltTy.i32)
local notation "b3" => (Memref.whole Cert.KernelIdeal.cc0_scratch3 : Memref Cert.KernelIdeal.sig Kind.scVector Space.vmem Cert.KernelIdeal.S2048 EltTy.i32)
local notation "b4" => (Memref.whole Cert.KernelIdeal.cc0_scratch4 : Memref Cert.KernelIdeal.sig Kind.scVector Space.vmem Cert.KernelIdeal.S2048 EltTy.i32)
local notation "b5" => (Memref.whole Cert.KernelIdeal.cc0_scratch5 : Memref Cert.KernelIdeal.sig Kind.scVector Space.vmem Cert.KernelIdeal.S2048 EltTy.i32)
local notation "b6" => (Memref.whole Cert.KernelIdeal.cc0_scratch6 : Memref Cert.KernelIdeal.sig Kind.scVector Space.vmem Cert.KernelIdeal.S2048 EltTy.i32)
local notation "b7" => (Memref.whole Cert.KernelIdeal.cc0_scratch7 : Memref Cert.KernelIdeal.sig Kind.scVector Space.vmem Cert.KernelIdeal.S2048 EltTy.i32)
local notation "b8" => (Memref.whole Cert.KernelIdeal.cc0_scratch8 : Memref Cert.KernelIdeal.sig Kind.scVector Space.vmem Cert.KernelIdeal.S2048 EltTy.i32)
local notation "b9" => (Memref.whole Cert.KernelIdeal.cc0_scratch9 : Memref Cert.KernelIdeal.sig Kind.scVector Space.vmem Cert.KernelIdeal.S2048 EltTy.i32)

/-! ## Filling a buffer sixteen words at a time -/

/-- A buffer that held `old` and whose first `n` groups of sixteen words have been replaced by `g`'s. -/
def filled (g old : Win) (n : ℕ) : Win := fun y => if (y 0).val < 16 * n then g y else old y

theorem filled_zero (g old : Win) : filled g old 0 = old := funext fun y => if_neg (by omega)
theorem filled_all (g old : Win) {n : ℕ} (hn : 128 ≤ n) : filled g old n = g :=
  funext fun y => if_pos (by have : (y 0).val < 2048 := (y 0).isLt; omega)

/-- Sixteen words from `16 * n` on. -/
theorem mem_group {off : Fin 1 → ℕ} {inb : ∀ a, off a + S16.size a ≤ S2048.size a} {n : ℕ} (hoff : off = ![16 * n]) (y : S2048.Idx) :
    y ∈ (Rect.unit (s := S2048) off S16.size inb).set ↔ 16 * n ≤ (y 0).val ∧ (y 0).val < 16 * (n + 1) := by
  subst hoff
  rw [Rect.mem_set_unit]
  constructor
  · intro h
    have := h 0
    simp at this
    omega
  · intro h a
    match a with
    | 0 => simp; omega

/-- Writing `g`'s words on the next group fills the buffer by one group more. -/
theorem read_fill {κ : Kind} {sp : Space} (v : View sig κ sp S2048 .i32) (f : v.ty.Contents (Elt F)) (g old : Win) {n : ℕ}
    {off : Fin 1 → ℕ} {inb : ∀ a, off a + S16.size a ≤ S2048.size a} (hoff : off = ![16 * n])
    (hf : v.read (Elt F) f = filled g old n) (w : S16.Idx → BitVec 32)
    (hw : ∀ x : S16.Idx, w x = g ((Rect.unit (s := S2048) off S16.size inb).emb x)) :
    v.read (Elt F) (v.writes (Elt F) f [⟨Rect.unit (s := S2048) off S16.size inb, w⟩]) = filled g old (n + 1) := by
  funext y
  by_cases hy : y ∈ (Rect.unit (s := S2048) off S16.size inb).set
  · have hL : ∀ p ∈ ([⟨Rect.unit (s := S2048) off S16.size inb, w⟩] : List (View.Piece (Elt F) S2048 .i32)),
        ∀ x : p.1.shape.Idx, p.2 x = g (p.1.emb x) := by
      intro p hp
      rw [List.mem_singleton] at hp
      subst hp
      exact hw
    rw [View.read_writes_apply_of_pieces v f g _ hL y ⟨_, List.mem_cons_self, hy⟩]
    exact (if_pos ((mem_group hoff y).mp hy).2).symm
  · have hL : ∀ p ∈ ([⟨Rect.unit (s := S2048) off S16.size inb, w⟩] : List (View.Piece (Elt F) S2048 .i32)), y ∉ p.1.set := by
      intro p hp
      rw [List.mem_singleton] at hp
      subst hp
      exact hy
    rw [View.read_writes_apply_of_forall_not_mem v f y _ hL, hf]
    have h := fun h => hy ((mem_group hoff y).mpr h)
    unfold filled
    by_cases h1 : (y 0).val < 16 * n
    · rw [if_pos h1, if_pos (by omega)]
    · rw [if_neg h1, if_neg (fun h2 => h ⟨by omega, h2⟩)]

/-- The next group still holds the old words. -/
theorem filled_next (g old : Win) {n : ℕ} {off : Fin 1 → ℕ} {inb : ∀ a, off a + S16.size a ≤ S2048.size a} (hoff : off = ![16 * n]) (x : S16.Idx) :
    filled g old n ((Rect.unit (s := S2048) off S16.size inb).emb x) = old ((Rect.unit (s := S2048) off S16.size inb).emb x) := by
  have hm : (Rect.unit (s := S2048) off S16.size inb).emb x ∈ (Rect.unit (s := S2048) off S16.size inb).set :=
    Rect.map_emb_univ (r := Rect.unit (s := S2048) off S16.size inb) ▸ Finset.mem_map_of_mem _ (Finset.mem_univ x)
  exact if_neg (by have := ((mem_group hoff _).mp hm).1; omega)

/-- A load of the next group reads the old words. -/
theorem load_next {κ : Kind} {sp : Space} (v : View sig κ sp S2048 .i32) (f : v.ty.Contents (Elt F)) (g old : Win) {n : ℕ}
    {off : Fin 1 → ℕ} {inb : ∀ a, off a + S16.size a ≤ S2048.size a} (hoff : off = ![16 * n])
    (hf : v.read (Elt F) f = filled g old n) (x : S16.Idx) :
    v.readAt (Elt F) (Rect.unit (s := S2048) off S16.size inb).toLoadRect f x = old ((Rect.unit (s := S2048) off S16.size inb).emb x) :=
  (congrFun hf _).trans (filled_next g old hoff x)

section Trips

variable (d : Dev nD) (L : grid0.Coords)

/-- What the first loop has done after `n` trips, on the actions `act`, the range ends `lo` and `hi`: the places in
    the edge table and the two flags of the first `16 * n` entries. -/
def inv1 (act lo hi places : Win) (n : ℕ) (_ : PUnit) : sProp 𝕄 :=
  iprop(((b0).view.loc (V d (cV L) (jV L)) ↦{fullShare} filled (fun y => moveW (act y)) act n)
    ∗ ((b1).view.loc (V d (cV L) (jV L)) ↦{fullShare} filled (fun y => startW (hi y) (lo y)) lo n)
    ∗ ((b2).view.loc (V d (cV L) (jV L)) ↦{fullShare} hi)
    ∗ ((b4).view.loc (V d (cV L) (jV L)) ↦{fullShare} filled (fun y => slotW (act y)) places n))

/-- One trip of the first loop. -/
theorem trip1 (act lo hi places : Win) (t : Fin k0_t1_loop.trips) :
    inv1 (F := F) d L act lo hi places t.val ⟨⟩
      ⊢ wp frame (wpE (defs₀ (F := F)) 𝒱₀ (V d (cV L) (jV L)) none) Set.univ
          (k0_t1_body (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7 t ⟨⟩)
          fun x => inv1 (F := F) d L act lo hi places (t.val + 1) x := by
  unfold inv1 k0_t1_body
  iintro ⟨H0, H1, H2, H4⟩
  sl_exec
  sl_step
  have hoff := k0_off2_eq t
  have e0 := read_fill (F := F) (b0).view (filled (fun y => moveW (act y)) act t.val) (fun y => moveW (act y)) act (inb := k0_off2_inb t) hoff rfl
    (k0_pay6 (F := F) ((b0).view.readAt (Elt F) (Rect.unit (s := S2048) (k0_off2 t) S16.size (k0_off2_inb t)).toLoadRect (filled (fun y => moveW (act y)) act t.val)))
    fun x => (pay6_apply _ x).trans (congrArg moveW (load_next _ _ _ _ hoff rfl x))
  have e1 := read_fill (F := F) (b1).view (filled (fun y => startW (hi y) (lo y)) lo t.val) (fun y => startW (hi y) (lo y)) lo (inb := k0_off2_inb t) hoff rfl
    (k0_pay7 (F := F) ((b2).view.readAt (Elt F) (Rect.unit (s := S2048) (k0_off2 t) S16.size (k0_off2_inb t)).toLoadRect hi)
      ((b1).view.readAt (Elt F) (Rect.unit (s := S2048) (k0_off2 t) S16.size (k0_off2_inb t)).toLoadRect (filled (fun y => startW (hi y) (lo y)) lo t.val)))
    fun x => (pay7_apply _ _ x).trans (congrArg (startW _) (load_next _ _ _ _ hoff rfl x))
  have e4 := read_fill (F := F) (b4).view (filled (fun y => slotW (act y)) places t.val) (fun y => slotW (act y)) places (inb := k0_off2_inb t) hoff rfl
    (k0_pay5 (F := F) ((b0).view.readAt (Elt F) (Rect.unit (s := S2048) (k0_off2 t) S16.size (k0_off2_inb t)).toLoadRect (filled (fun y => moveW (act y)) act t.val)))
    fun x => (pay5_apply _ x).trans (congrArg slotW (load_next _ _ (fun y => moveW (act y)) _ hoff rfl x))
  rw [← e0, ← e1, ← e4]
  isplitl [H0]; · iexact H0
  isplitl [H1]; · iexact H1
  isplitl [H2]; · iexact H2
  iexact H4

/-- What the second loop has done after `n` trips, on the moves `mv`, the flags of a start `st`, the dummy flags `dm`,
    the start nodes `nd` and the targets `tg`: the three results of the first `16 * n` entries. -/
def inv2 (mv st dm nd tg o7 o8 o9 : Win) (n : ℕ) (_ : PUnit) : sProp 𝕄 :=
  iprop(((b0).view.loc (V d (cV L) (jV L)) ↦{fullShare} mv)
    ∗ ((b1).view.loc (V d (cV L) (jV L)) ↦{fullShare} st)
    ∗ ((b3).view.loc (V d (cV L) (jV L)) ↦{fullShare} dm)
    ∗ ((b6).view.loc (V d (cV L) (jV L)) ↦{fullShare} nd)
    ∗ ((b5).view.loc (V d (cV L) (jV L)) ↦{fullShare} tg)
    ∗ ((b7).view.loc (V d (cV L) (jV L)) ↦{fullShare} filled (fun y => nodeW (mv y) (st y) (nd y) (tg y)) o7 n)
    ∗ ((b8).view.loc (V d (cV L) (jV L)) ↦{fullShare} filled (fun y => countW (st y) (dm y)) o8 n)
    ∗ ((b9).view.loc (V d (cV L) (jV L)) ↦{fullShare} filled (fun y => stopW (mv y) (st y) (dm y)) o9 n))

/-- One trip of the second loop. -/
theorem trip2 (mv st dm nd tg o7 o8 o9 : Win) (t : Fin k0_t2_loop.trips) :
    inv2 (F := F) d L mv st dm nd tg o7 o8 o9 t.val ⟨⟩
      ⊢ wp frame (wpE (defs₀ (F := F)) 𝒱₀ (V d (cV L) (jV L)) none) Set.univ
          (k0_t2_body (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7 k0_pay2 t ⟨⟩)
          fun x => inv2 (F := F) d L mv st dm nd tg o7 o8 o9 (t.val + 1) x := by
  unfold inv2 k0_t2_body
  iintro ⟨H0, H1, H3, H6, H5, H7, H8, H9⟩
  sl_exec
  sl_step
  have hoff := k0_off3_eq t
  have e7 := read_fill (F := F) (b7).view (filled (fun y => nodeW (mv y) (st y) (nd y) (tg y)) o7 t.val) (fun y => nodeW (mv y) (st y) (nd y) (tg y)) o7
    (inb := k0_off3_inb t) hoff rfl
    (k0_pay13 (F := F) k0_pay2 ((b0).view.readAt (Elt F) (Rect.unit (s := S2048) (k0_off3 t) S16.size (k0_off3_inb t)).toLoadRect mv)
      ((b1).view.readAt (Elt F) (Rect.unit (s := S2048) (k0_off3 t) S16.size (k0_off3_inb t)).toLoadRect st)
      ((b6).view.readAt (Elt F) (Rect.unit (s := S2048) (k0_off3 t) S16.size (k0_off3_inb t)).toLoadRect nd)
      ((b5).view.readAt (Elt F) (Rect.unit (s := S2048) (k0_off3 t) S16.size (k0_off3_inb t)).toLoadRect tg))
    fun x => pay13_apply _ _ _ _ x
  have e8 := read_fill (F := F) (b8).view (filled (fun y => countW (st y) (dm y)) o8 t.val) (fun y => countW (st y) (dm y)) o8
    (inb := k0_off3_inb t) hoff rfl
    (k0_pay14 (F := F) k0_pay2 ((b1).view.readAt (Elt F) (Rect.unit (s := S2048) (k0_off3 t) S16.size (k0_off3_inb t)).toLoadRect st)
      ((b3).view.readAt (Elt F) (Rect.unit (s := S2048) (k0_off3 t) S16.size (k0_off3_inb t)).toLoadRect dm))
    fun x => pay14_apply _ _ x
  have e9 := read_fill (F := F) (b9).view (filled (fun y => stopW (mv y) (st y) (dm y)) o9 t.val) (fun y => stopW (mv y) (st y) (dm y)) o9
    (inb := k0_off3_inb t) hoff rfl
    (k0_pay15 (F := F) k0_pay2 ((b0).view.readAt (Elt F) (Rect.unit (s := S2048) (k0_off3 t) S16.size (k0_off3_inb t)).toLoadRect mv)
      ((b1).view.readAt (Elt F) (Rect.unit (s := S2048) (k0_off3 t) S16.size (k0_off3_inb t)).toLoadRect st)
      ((b3).view.readAt (Elt F) (Rect.unit (s := S2048) (k0_off3 t) S16.size (k0_off3_inb t)).toLoadRect dm))
    fun x => pay15_apply _ _ _ x
  rw [← e7, ← e8, ← e9]
  isplitl [H0]; · iexact H0
  isplitl [H1]; · iexact H1
  isplitl [H3]; · iexact H3
  isplitl [H6]; · iexact H6
  isplitl [H5]; · iexact H5
  isplitl [H7]; · iexact H7
  isplitl [H8]; · iexact H8
  iexact H9

end Trips

end Cert.KernelIdealRun
-- ==== Proof.KernelIdeal.Parts.lean ====
/- The three stretches of a tile's program that start the gathers and wait for them. -/
module

public import proofs.«01_k».proof.Proof.Kernel.Parts
public import proofs.«01_k».proof.Proof.KernelIdeal.Gathers

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch pending)

variable {F : FTy → Type} [FloatOps F]

local notation "𝕄" => MT nD τ sig (HIx 1) (Elt F) ℕ UU ℕ
local notation "startV" => (Memref.whole Cert.KernelIdeal.main_arg1_scv : Memref Cert.KernelIdeal.sig Kind.scVector Space.hbm Cert.KernelIdeal.S65536 EltTy.i32)
local notation "loV" => (Memref.whole Cert.KernelIdeal.main_v0_scv : Memref Cert.KernelIdeal.sig Kind.scVector Space.hbm Cert.KernelIdeal.S65536 EltTy.i32)
local notation "hiV" => (Memref.whole Cert.KernelIdeal.main_v1_scv : Memref Cert.KernelIdeal.sig Kind.scVector Space.hbm Cert.KernelIdeal.S65536 EltTy.i32)
local notation "dumV" => (Memref.whole Cert.KernelIdeal.main_v2_scv : Memref Cert.KernelIdeal.sig Kind.scVector Space.hbm Cert.KernelIdeal.S65536 EltTy.i32)
local notation "edgeV" => (Memref.whole Cert.KernelIdeal.main_v4_scv : Memref Cert.KernelIdeal.sig Kind.scVector Space.hbm Cert.KernelIdeal.S12800000 EltTy.i32)
local notation "actV" => (Memref.whole Cert.KernelIdeal.main_arg5_scv : Memref Cert.KernelIdeal.sig Kind.scVector Space.hbm Cert.KernelIdeal.S65536 EltTy.i32)
local notation "nodeV" => (Memref.whole Cert.KernelIdeal.main_v5_0_scv : Memref Cert.KernelIdeal.sig Kind.scVector Space.hbm Cert.KernelIdeal.S65536 EltTy.i32)
local notation "countV" => (Memref.whole Cert.KernelIdeal.main_v5_1_scv : Memref Cert.KernelIdeal.sig Kind.scVector Space.hbm Cert.KernelIdeal.S65536 EltTy.i32)
local notation "stopV" => (Memref.whole Cert.KernelIdeal.main_v5_2_scv : Memref Cert.KernelIdeal.sig Kind.scVector Space.hbm Cert.KernelIdeal.S65536 EltTy.i32)
local notation "b0" => (Memref.whole Cert.KernelIdeal.cc0_scratch0 : Memref Cert.KernelIdeal.sig Kind.scVector Space.vmem Cert.KernelIdeal.S2048 EltTy.i32)
local notation "b1" => (Memref.whole Cert.KernelIdeal.cc0_scratch1 : Memref Cert.KernelIdeal.sig Kind.scVector Space.vmem Cert.KernelIdeal.S2048 EltTy.i32)
local notation "b2" => (Memref.whole Cert.KernelIdeal.cc0_scratch2 : Memref Cert.KernelIdeal.sig Kind.scVector Space.vmem Cert.KernelIdeal.S2048 EltTy.i32)
local notation "b3" => (Memref.whole Cert.KernelIdeal.cc0_scratch3 : Memref Cert.KernelIdeal.sig Kind.scVector Space.vmem Cert.KernelIdeal.S2048 EltTy.i32)
local notation "b4" => (Memref.whole Cert.KernelIdeal.cc0_scratch4 : Memref Cert.KernelIdeal.sig Kind.scVector Space.vmem Cert.KernelIdeal.S2048 EltTy.i32)
local notation "b5" => (Memref.whole Cert.KernelIdeal.cc0_scratch5 : Memref Cert.KernelIdeal.sig Kind.scVector Space.vmem Cert.KernelIdeal.S2048 EltTy.i32)
local notation "b6" => (Memref.whole Cert.KernelIdeal.cc0_scratch6 : Memref Cert.KernelIdeal.sig Kind.scVector Space.vmem Cert.KernelIdeal.S2048 EltTy.i32)
local notation "b7" => (Memref.whole Cert.KernelIdeal.cc0_scratch7 : Memref Cert.KernelIdeal.sig Kind.scVector Space.vmem Cert.KernelIdeal.S2048 EltTy.i32)
local notation "b8" => (Memref.whole Cert.KernelIdeal.cc0_scratch8 : Memref Cert.KernelIdeal.sig Kind.scVector Space.vmem Cert.KernelIdeal.S2048 EltTy.i32)
local notation "b9" => (Memref.whole Cert.KernelIdeal.cc0_scratch9 : Memref Cert.KernelIdeal.sig Kind.scVector Space.vmem Cert.KernelIdeal.S2048 EltTy.i32)

section Parts

variable (d : Dev nD) (L : grid0.Coords) (q : PosShare TreeShare) (places old : Win) (edge : Tab)

/-- The batch of the gathers of which `o` one-word copies are started, with what the others need. -/
def started (o : ℕ) : sProp 𝕄 :=
  iprop(Batch countersEmb (V d (cV L) (jV L)) (.dma cc0_scratch10.sem) (none : HIx 1) 32 (after (F := F) d (cV L) (jV L) q places edge) o 0
    ∗ bigSep (pending o) (before (F := F) d (cV L) (jV L) q places old edge))

/-- The batch with everything started, of which `u` units have been waited for, and what the tile owes, for waits `W` and
    perhaps some more on the gathers' semaphore. -/
def waited (O : CellTallies nD τ sig (HIx 1)) (W : Waits sig (HIx 1)) (u : ℕ) : sProp 𝕄 :=
  iprop(Transfers.MayWaits (V d (cV L) (jV L)) (none : HIx 1) O
    ∗ Batch countersEmb (V d (cV L) (jV L)) (.dma cc0_scratch10.sem) (none : HIx 1) 32 (after (F := F) d (cV L) (jV L) q places edge) 2048 u
    ∗ ∃ W', ⌜∀ p ∈ W', p ∈ W ∨ p.2 = none⌝ ∗ owes (V d (cV L) (jV L)) O W')

variable {q places old edge} in
/-- One gather, in terms of `started`. -/
theorem start_one {α : Type} {Q : α → sProp 𝕄} {o : ℕ} (ho : o + 128 ≤ 2048)
    (inb : ∀ a, (![o] : Fin 1 → ℕ) a + S128.size a ≤ S2048.size a)
    {hsrc : (edgeAll).view.WordExact} {he : EltTy.i32.bits = 32} {hsp : Space.hbm = .hbm ∨ Space.hbm = .shared}
    {hp : (V d (cV L) (jV L) : Thread nD τ).2.kind = .scVector}
    {hn : S128.numel = S128.size (gathers_S12800000_S128).axis'} {hr : S12800000.StreamRows 0}
    {cont : PUnit → Prog (TpuEff nD τ sig (Elt F) Λ₀ (V d (cV L) (jV L) : Thread nD τ).2) α}
    (hplaces : ∀ y, (places y).toNat < 12800000) :
    started (F := F) d L q places old edge o
      ⊢ iprop((started (F := F) d L q places old edge (o + 128) -∗ wp frame (wpE (defs₀ (F := F)) 𝒱₀ (V d (cV L) (jV L)) none) Set.univ (cont ⟨⟩) Q)
          -∗ wp frame (wpE (defs₀ (F := F)) 𝒱₀ (V d (cV L) (jV L)) none) Set.univ
              (SparseCore.enqueueIndirectGather hp edgeAll (tgtAt o inb) gathers_S12800000_S128 (idxAt o inb) hn cc0_scratch10.sem hsrc he hsp hr >>= cont) Q) :=
  gather_start ho inb hplaces

variable {q places edge} in
/-- One wait, in terms of `waited`. -/
theorem wait_one {α : Type} {Q : α → sProp 𝕄} {u : ℕ} (hu : u + 4096 ≤ 65536) {o : ℕ}
    (inb : ∀ a, (![o] : Fin 1 → ℕ) a + S128.size a ≤ S2048.size a)
    {hsrc : (edgeAll).view.WordExact} {hdst : (tgtAt o inb).view.WordExact} {O : CellTallies nD τ sig (HIx 1)} {W : Waits sig (HIx 1)}
    {k : PUnit → Prog (TpuEff nD τ sig (Elt F) Λ₀ (V d (cV L) (jV L) : Thread nD τ).2) α} :
    waited (F := F) d L q places edge O W u
      ⊢ iprop((waited (F := F) d L q places edge O W (u + 4096) -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.waitIndirectGather cc0_scratch10.sem edgeAll (tgtAt o inb) hsrc hdst >>= k) Q) := by
  unfold waited
  iintro ⟨#Hmw, HB, %W', %hW', HO⟩ Hk
  iapply (gather_wait hu inb) $$ [HB HO]
  · isplitl [HB]; · iexact HB
    isplitl [HO]; · iexact HO
    iapply (Transfers.MayWaits.elim (SemLoc.dma cc0_scratch10.sem)) $$ Hmw
  · iintro ⟨HB, HO⟩
    iapply Hk
    isplitr; · iexact Hmw
    isplitl [HB]; · iexact HB
    iexists (insert (SemLoc.dma cc0_scratch10.sem, (none : HIx 1)) W')
    isplitr [HO]
    · ipureintro
      intro p hp
      rcases Finset.mem_insert.mp hp with rfl | hp
      · exact .inr rfl
      · exact hW' p hp
    · iexact HO

/-- The second stretch starts gathers two to ten. -/
theorem part2 (hplaces : ∀ y, (places y).toNat < 12800000) :
    started (F := F) d L q places old edge 128
      ⊢ wp frame (wpE (defs₀ (F := F)) 𝒱₀ (V d (cV L) (jV L)) none) Set.univ
          (k0_part2 (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7)
          fun _ => started (F := F) d L q places old edge 1280 := by
  rw [k0_part2_eq_skeleton]; unfold k0_part2_skel
  iintro H
  iapply (start_one d L (o := 128) (by decide) inb_S2048_S128_128 hplaces) $$ H; iintro H
  iapply (start_one d L (o := 256) (by decide) inb_S2048_S128_256 hplaces) $$ H; iintro H
  iapply (start_one d L (o := 384) (by decide) inb_S2048_S128_384 hplaces) $$ H; iintro H
  iapply (start_one d L (o := 512) (by decide) inb_S2048_S128_512 hplaces) $$ H; iintro H
  iapply (start_one d L (o := 640) (by decide) inb_S2048_S128_640 hplaces) $$ H; iintro H
  iapply (start_one d L (o := 768) (by decide) inb_S2048_S128_768 hplaces) $$ H; iintro H
  iapply (start_one d L (o := 896) (by decide) inb_S2048_S128_896 hplaces) $$ H; iintro H
  iapply (start_one d L (o := 1024) (by decide) inb_S2048_S128_1024 hplaces) $$ H; iintro H
  iapply (start_one d L (o := 1152) (by decide) inb_S2048_S128_1152 hplaces) $$ H; iintro H
  rw [wp_pure]
  iexact H

/-- The third stretch starts the other gathers and waits for the first two. -/
theorem part3 (hplaces : ∀ y, (places y).toNat < 12800000) (O : CellTallies nD τ sig (HIx 1)) (W W' : Waits sig (HIx 1))
    (hW' : ∀ p ∈ W', p ∈ W ∨ p.2 = none) :
    iprop(Transfers.MayWaits (V d (cV L) (jV L)) (none : HIx 1) O ∗ started (F := F) d L q places old edge 1280 ∗ owes (V d (cV L) (jV L)) O W')
      ⊢ wp frame (wpE (defs₀ (F := F)) 𝒱₀ (V d (cV L) (jV L)) none) Set.univ
          (k0_part3 (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7)
          fun _ => waited (F := F) d L q places edge O W 8192 := by
  rw [k0_part3_eq_skeleton]; unfold k0_part3_skel
  iintro ⟨#Hmw, H, HO⟩
  iapply (start_one d L (o := 1280) (by decide) inb_S2048_S128_1280 hplaces) $$ H; iintro H
  iapply (start_one d L (o := 1408) (by decide) inb_S2048_S128_1408 hplaces) $$ H; iintro H
  iapply (start_one d L (o := 1536) (by decide) inb_S2048_S128_1536 hplaces) $$ H; iintro H
  iapply (start_one d L (o := 1664) (by decide) inb_S2048_S128_1664 hplaces) $$ H; iintro H
  iapply (start_one d L (o := 1792) (by decide) inb_S2048_S128_1792 hplaces) $$ H; iintro H
  iapply (start_one d L (o := 1920) (by decide) inb_S2048_S128_1920 hplaces) $$ H; iintro H
  ihave H := (show iprop(Transfers.MayWaits (V d (cV L) (jV L)) (none : HIx 1) O ∗ started (F := F) d L q places old edge 2048 ∗ owes (V d (cV L) (jV L)) O W')
      ⊢ waited (F := F) d L q places edge O W 0 by
    unfold started waited
    iintro ⟨Hmw, ⟨HB, -⟩, HO⟩
    isplitl [Hmw]; · iexact Hmw
    isplitl [HB]; · iexact HB
    iexists W'
    isplitr [HO]; · ipureintro; exact hW'
    iexact HO) $$ [H HO]
  · isplitr; · iexact Hmw
    isplitl [H]; · iexact H
    iexact HO
  iapply (wait_one d L (u := 0) (by decide) inb_S2048_S128_0) $$ H; iintro H
  iapply (wait_one d L (u := 4096) (by decide) inb_S2048_S128_128) $$ H; iintro H
  rw [wp_pure]
  iexact H

/-- The fourth stretch waits for nine more. -/
theorem part4 (O : CellTallies nD τ sig (HIx 1)) (W : Waits sig (HIx 1)) :
    waited (F := F) d L q places edge O W 8192
      ⊢ wp frame (wpE (defs₀ (F := F)) 𝒱₀ (V d (cV L) (jV L)) none) Set.univ
          (k0_part4 (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7)
          fun _ => waited (F := F) d L q places edge O W 45056 := by
  rw [k0_part4_eq_skeleton]; unfold k0_part4_skel
  iintro H
  iapply (wait_one d L (u := 8192) (by decide) inb_S2048_S128_256) $$ H; iintro H
  iapply (wait_one d L (u := 12288) (by decide) inb_S2048_S128_384) $$ H; iintro H
  iapply (wait_one d L (u := 16384) (by decide) inb_S2048_S128_512) $$ H; iintro H
  iapply (wait_one d L (u := 20480) (by decide) inb_S2048_S128_640) $$ H; iintro H
  iapply (wait_one d L (u := 24576) (by decide) inb_S2048_S128_768) $$ H; iintro H
  iapply (wait_one d L (u := 28672) (by decide) inb_S2048_S128_896) $$ H; iintro H
  iapply (wait_one d L (u := 32768) (by decide) inb_S2048_S128_1024) $$ H; iintro H
  iapply (wait_one d L (u := 36864) (by decide) inb_S2048_S128_1152) $$ H; iintro H
  iapply (wait_one d L (u := 40960) (by decide) inb_S2048_S128_1280) $$ H; iintro H
  rw [wp_pure]
  iexact H

end Parts

end Cert.KernelIdealRun
-- ==== Proof.KernelIdeal.Tile.lean ====
/- One tile's task, with its values: from its windows of the five columns of operands and its share of the
   edge table, to its windows of the three columns of results. -/
module

public import proofs.«01_k».proof.Proof.Kernel.Tile
public import proofs.«01_k».proof.Proof.KernelIdeal.Loops
public import proofs.«01_k».proof.Proof.KernelIdeal.Parts

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch pending)

variable {F : FTy → Type} [FloatOps F]

local notation "𝕄" => MT nD τ sig (HIx 1) (Elt F) ℕ UU ℕ
local notation "startV" => (Memref.whole Cert.KernelIdeal.main_arg1_scv : Memref Cert.KernelIdeal.sig Kind.scVector Space.hbm Cert.KernelIdeal.S65536 EltTy.i32)
local notation "loV" => (Memref.whole Cert.KernelIdeal.main_v0_scv : Memref Cert.KernelIdeal.sig Kind.scVector Space.hbm Cert.KernelIdeal.S65536 EltTy.i32)
local notation "hiV" => (Memref.whole Cert.KernelIdeal.main_v1_scv : Memref Cert.KernelIdeal.sig Kind.scVector Space.hbm Cert.KernelIdeal.S65536 EltTy.i32)
local notation "dumV" => (Memref.whole Cert.KernelIdeal.main_v2_scv : Memref Cert.KernelIdeal.sig Kind.scVector Space.hbm Cert.KernelIdeal.S65536 EltTy.i32)
local notation "edgeV" => (Memref.whole Cert.KernelIdeal.main_v4_scv : Memref Cert.KernelIdeal.sig Kind.scVector Space.hbm Cert.KernelIdeal.S12800000 EltTy.i32)
local notation "actV" => (Memref.whole Cert.KernelIdeal.main_arg5_scv : Memref Cert.KernelIdeal.sig Kind.scVector Space.hbm Cert.KernelIdeal.S65536 EltTy.i32)
local notation "nodeV" => (Memref.whole Cert.KernelIdeal.main_v5_0_scv : Memref Cert.KernelIdeal.sig Kind.scVector Space.hbm Cert.KernelIdeal.S65536 EltTy.i32)
local notation "countV" => (Memref.whole Cert.KernelIdeal.main_v5_1_scv : Memref Cert.KernelIdeal.sig Kind.scVector Space.hbm Cert.KernelIdeal.S65536 EltTy.i32)
local notation "stopV" => (Memref.whole Cert.KernelIdeal.main_v5_2_scv : Memref Cert.KernelIdeal.sig Kind.scVector Space.hbm Cert.KernelIdeal.S65536 EltTy.i32)
local notation "b0" => (Memref.whole Cert.KernelIdeal.cc0_scratch0 : Memref Cert.KernelIdeal.sig Kind.scVector Space.vmem Cert.KernelIdeal.S2048 EltTy.i32)
local notation "b1" => (Memref.whole Cert.KernelIdeal.cc0_scratch1 : Memref Cert.KernelIdeal.sig Kind.scVector Space.vmem Cert.KernelIdeal.S2048 EltTy.i32)
local notation "b2" => (Memref.whole Cert.KernelIdeal.cc0_scratch2 : Memref Cert.KernelIdeal.sig Kind.scVector Space.vmem Cert.KernelIdeal.S2048 EltTy.i32)
local notation "b3" => (Memref.whole Cert.KernelIdeal.cc0_scratch3 : Memref Cert.KernelIdeal.sig Kind.scVector Space.vmem Cert.KernelIdeal.S2048 EltTy.i32)
local notation "b4" => (Memref.whole Cert.KernelIdeal.cc0_scratch4 : Memref Cert.KernelIdeal.sig Kind.scVector Space.vmem Cert.KernelIdeal.S2048 EltTy.i32)
local notation "b5" => (Memref.whole Cert.KernelIdeal.cc0_scratch5 : Memref Cert.KernelIdeal.sig Kind.scVector Space.vmem Cert.KernelIdeal.S2048 EltTy.i32)
local notation "b6" => (Memref.whole Cert.KernelIdeal.cc0_scratch6 : Memref Cert.KernelIdeal.sig Kind.scVector Space.vmem Cert.KernelIdeal.S2048 EltTy.i32)
local notation "b7" => (Memref.whole Cert.KernelIdeal.cc0_scratch7 : Memref Cert.KernelIdeal.sig Kind.scVector Space.vmem Cert.KernelIdeal.S2048 EltTy.i32)
local notation "b8" => (Memref.whole Cert.KernelIdeal.cc0_scratch8 : Memref Cert.KernelIdeal.sig Kind.scVector Space.vmem Cert.KernelIdeal.S2048 EltTy.i32)
local notation "b9" => (Memref.whole Cert.KernelIdeal.cc0_scratch9 : Memref Cert.KernelIdeal.sig Kind.scVector Space.vmem Cert.KernelIdeal.S2048 EltTy.i32)

section Tile

variable (d : Dev nD) (L : grid0.Coords)

/-- A column's words on the tile's window. -/
def winOf (f : Col) : Win := fun y => f ((winK L).emb y)

/-- An array held on a rectangle of it, in the program's spelling and in the launch's. -/
theorem pts_win (b : Ref sig .scVector) {r : Rect b.ty.shape} {h : ∀ a, r.stride a = 1} {A : Finset b.ty.shape.Idx} (hA : r.set = A)
    (f : Buf (Elt F) ((V d (cV L) (jV L)).loc b)) :
    ((((Memref.whole b).slice r h).view.loc (V d (cV L) (jV L)) ↦[((Memref.whole b).slice r h).view.set]{fullShare} f) : sProp 𝕄)
      = (V d (cV L) (jV L)).loc b ↦[A]{fullShare} f := by
  subst hA
  rw [show ((Memref.whole b).slice r h).view.set = r.set from (View.set_slice _ _).trans Finset.map_refl]

/-- A buffer filled whole holds what was written. -/
theorem pts_copied (b : Ref sig .scVector) (g : Buf (Elt F) ((V d (cV L) (jV L)).loc b)) {f f' : (Memref.whole b).view.ty.Contents (Elt F)}
    (h : f = f') :
    ((Memref.whole b).view.loc (V d (cV L) (jV L)) ↦{fullShare} (Memref.whole b).view.write (Elt F) g f Finset.univ : sProp 𝕄)
      ⊢ (Memref.whole b).view.loc (V d (cV L) (jV L)) ↦{fullShare} f' := by
  subst h
  exact Entails.of_eq (congrArg (fun g => ((V d (cV L) (jV L)).loc b ↦{fullShare} g : sProp 𝕄)) (View.write_whole_univ b g f))

/-- A rectangle of an array, copied over whole with the words that `g` has there, holds `g`. -/
theorem pts_out (b : Ref sig .scVector) {r : Rect b.ty.shape} {h : ∀ a, r.stride a = 1} {A : Finset b.ty.shape.Idx} (hA : r.set = A)
    (f g : Buf (Elt F) ((V d (cV L) (jV L)).loc b)) {w : r.shape.Idx → Elt F b.ty.elt} (hw : ∀ x, w x = g (r.emb x)) :
    ((((Memref.whole b).slice r h).view.loc (V d (cV L) (jV L)) ↦[((Memref.whole b).slice r h).view.set]{fullShare}
        ((Memref.whole b).slice r h).view.writes (Elt F) f [⟨Rect.whole r.shape, w⟩]) : sProp 𝕄)
      ⊢ (V d (cV L) (jV L)).loc b ↦[A]{fullShare} g := by
  rw [← pts_win d L b (h := h) hA]
  refine Entails.of_eq (pointsTo_congr fun z hz => ?_)
  obtain ⟨x, -, rfl⟩ := Finset.mem_map.mp hz
  have hL : ∀ p ∈ ([⟨Rect.whole r.shape, w⟩] : List (View.Piece (Elt F) r.shape b.ty.elt)), ∀ x : p.1.shape.Idx, p.2 x = w (p.1.emb x) := by
    intro p hp
    rw [List.mem_singleton] at hp
    subst hp
    exact fun x => congrArg w (Rect.emb_whole_apply _ x).symm
  exact (View.read_writes_apply_of_pieces ((Memref.whole b).slice r h).view f w _ hL x ⟨_, List.mem_cons_self, Rect.set_whole r.shape ▸ Finset.mem_univ x⟩).trans (hw x)

set_option maxHeartbeats 4000000 in
/-- The task. -/
theorem tile_body (hF : (K (F := F)).Facts) (act lo hi dum start : Col) (edge : Tab) (f0 f1 f2 : Col)
    (hact : ∀ i, (slotW (act i)).toNat < 12800000) (O : CellTallies nD τ sig (HIx 1)) (W : Waits sig (HIx 1)) (hO : ∀ g, O g none = 0) :
    iprop(levAts (K (F := F)).L (K (F := F)).lev ∗ emp ∗ taskRes (F := F) d (wk L) act lo hi dum start edge f0 f1 f2
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__graph_step (F := F) L startV (Memref.isWhole_whole _) loV (Memref.isWhole_whole _) hiV (Memref.isWhole_whole _)
            dumV (Memref.isWhole_whole _) edgeV (Memref.isWhole_whole _) actV (Memref.isWhole_whole _) nodeV (Memref.isWhole_whole _)
            countV (Memref.isWhole_whole _) stopV (Memref.isWhole_whole _) b0 (Memref.isWhole_whole _) b1 (Memref.isWhole_whole _)
            b2 (Memref.isWhole_whole _) b3 (Memref.isWhole_whole _) b4 (Memref.isWhole_whole _) b5 (Memref.isWhole_whole _)
            b6 (Memref.isWhole_whole _) b7 (Memref.isWhole_whole _) b8 (Memref.isWhole_whole _) b9 (Memref.isWhole_whole _)
            cc0_scratch10 cc0_scoped0 cc0_scoped1 cc0_scoped2 cc0_scoped3 cc0_scoped4 cc0_scoped5 cc0_scoped6 cc0_scoped7)
          fun _ => iprop(taskRes (F := F) d (wk L) act lo hi dum start edge (nodeCol act lo hi start edge) (countCol lo hi dum) (stopCol act lo hi dum)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__graph_step_eq_skeleton]; unfold cc0__graph_step_skel
  rw [k0_part5_eq_skeleton]; unfold k0_part5_skel
  rw [k0_part1_eq_skeleton]
  unfold k0_part1_skel
  rw [(K (F := F)).scopedBufs_V hF d (cV L) (jV L), SparseCore.Cfg.scopedSems0_V (Val := Elt F) d (cV L) (jV L), ownSems0_tile, ownBufs_tile]
  unfold taskRes
  have hw : (winK L).set = partSet (wk L) := by rw [winK_eq]
  rw [show (actLoc d ↦[partSet (wk L)]{fullShare} act : sProp 𝕄) = _ from (pts_win d L main_arg5_scv (h := fun _ => rfl) hw act).symm,
    show (loLoc d ↦[partSet (wk L)]{fullShare} lo : sProp 𝕄) = _ from (pts_win d L main_v0_scv (h := fun _ => rfl) hw lo).symm,
    show (hiLoc d ↦[partSet (wk L)]{fullShare} hi : sProp 𝕄) = _ from (pts_win d L main_v1_scv (h := fun _ => rfl) hw hi).symm,
    show (dumLoc d ↦[partSet (wk L)]{fullShare} dum : sProp 𝕄) = _ from (pts_win d L main_v2_scv (h := fun _ => rfl) hw dum).symm,
    show (startLoc d ↦[partSet (wk L)]{fullShare} start : sProp 𝕄) = _ from (pts_win d L main_arg1_scv (h := fun _ => rfl) hw start).symm,
    show (nodeLoc d ↦[partSet (wk L)]{fullShare} f0 : sProp 𝕄) = _ from (pts_win d L main_v5_0_scv (h := fun _ => rfl) hw f0).symm,
    show (countLoc d ↦[partSet (wk L)]{fullShare} f1 : sProp 𝕄) = _ from (pts_win d L main_v5_1_scv (h := fun _ => rfl) hw f1).symm,
    show (stopLoc d ↦[partSet (wk L)]{fullShare} f2 : sProp 𝕄) = _ from (pts_win d L main_v5_2_scv (h := fun _ => rfl) hw f2).symm]
  iintro ⟨#Hlv, -, ⟨Ha, Hl, Hh, Hd, Hs, He, Hn, Hc, Ht⟩,
    ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, Hbufs⟩,
    ⟨Hq, Hq0, Hq1, Hq2, Hq3, Hq4, Hq5, Hq6, Hq7, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave H0 := (Entails.of_eq (show ((V d (cV L) (jV L)).loc cc0_scratch0 ↦{fullShare} g0 : sProp 𝕄) = (b0).view.loc (V d (cV L) (jV L)) ↦{fullShare} g0 from rfl)) $$ H0
  ihave H1 := (Entails.of_eq (show ((V d (cV L) (jV L)).loc cc0_scratch1 ↦{fullShare} g1 : sProp 𝕄) = (b1).view.loc (V d (cV L) (jV L)) ↦{fullShare} g1 from rfl)) $$ H1
  ihave H2 := (Entails.of_eq (show ((V d (cV L) (jV L)).loc cc0_scratch2 ↦{fullShare} g2 : sProp 𝕄) = (b2).view.loc (V d (cV L) (jV L)) ↦{fullShare} g2 from rfl)) $$ H2
  ihave H3 := (Entails.of_eq (show ((V d (cV L) (jV L)).loc cc0_scratch3 ↦{fullShare} g3 : sProp 𝕄) = (b3).view.loc (V d (cV L) (jV L)) ↦{fullShare} g3 from rfl)) $$ H3
  ihave H4 := (Entails.of_eq (show ((V d (cV L) (jV L)).loc cc0_scratch4 ↦{fullShare} g4 : sProp 𝕄) = (b4).view.loc (V d (cV L) (jV L)) ↦{fullShare} g4 from rfl)) $$ H4
  ihave H5 := (Entails.of_eq (show ((V d (cV L) (jV L)).loc cc0_scratch5 ↦{fullShare} g5 : sProp 𝕄) = (b5).view.loc (V d (cV L) (jV L)) ↦{fullShare} g5 from rfl)) $$ H5
  ihave H6 := (Entails.of_eq (show ((V d (cV L) (jV L)).loc cc0_scratch6 ↦{fullShare} g6 : sProp 𝕄) = (b6).view.loc (V d (cV L) (jV L)) ↦{fullShare} g6 from rfl)) $$ H6
  ihave H7 := (Entails.of_eq (show ((V d (cV L) (jV L)).loc cc0_scratch7 ↦{fullShare} g7 : sProp 𝕄) = (b7).view.loc (V d (cV L) (jV L)) ↦{fullShare} g7 from rfl)) $$ H7
  ihave H8 := (Entails.of_eq (show ((V d (cV L) (jV L)).loc cc0_scratch8 ↦{fullShare} g8 : sProp 𝕄) = (b8).view.loc (V d (cV L) (jV L)) ↦{fullShare} g8 from rfl)) $$ H8
  ihave H9 := (Entails.of_eq (show ((V d (cV L) (jV L)).loc cc0_scratch9 ↦{fullShare} g9 : sProp 𝕄) = (b9).view.loc (V d (cV L) (jV L)) ↦{fullShare} g9 from rfl)) $$ H9
  sl_exec
  ihave H0 := (pts_copied d L cc0_scratch0 g0 (f' := winOf L act) (show tile_body.sl.dma0 L act = _ from rfl)) $$ H0
  ihave H1 := (pts_copied d L cc0_scratch1 g1 (f' := winOf L lo) (show tile_body.sl.dma0_1 L lo = _ from rfl)) $$ H1
  ihave H2 := (pts_copied d L cc0_scratch2 g2 (f' := winOf L hi) (show tile_body.sl.dma0_2 L hi = _ from rfl)) $$ H2
  ihave H3 := (pts_copied d L cc0_scratch3 g3 (f' := winOf L dum) (show tile_body.sl.dma0_3 L dum = _ from rfl)) $$ H3
  ihave H6 := (pts_copied d L cc0_scratch6 g6 (f' := winOf L start) (show tile_body.sl.dma0_4 L start = _ from rfl)) $$ H6
  rw [wp_bind, wp_bind]
  sl_for (inv1 (F := F) d L (winOf L act) (winOf L lo) (winOf L hi) g4) $$ [H0 H1 H2 H4]
  case region =>
    intro k _
    exact trip1 d L (winOf L act) (winOf L lo) (winOf L hi) g4 k
  · unfold inv1
    rw [filled_zero, filled_zero, filled_zero]
    isplitl [H0]; · iexact H0
    isplitl [H1]; · iexact H1
    isplitl [H2]; · iexact H2
    iexact H4
  iintro %_ HI
  ihave HI := (show inv1 (F := F) d L (winOf L act) (winOf L lo) (winOf L hi) g4 k0_t1_loop.trips ⟨⟩ ⊢ _ by
    unfold inv1
    rw [filled_all _ _ (by decide), filled_all _ _ (by decide), filled_all _ _ (by decide)]) $$ HI
  icases HI with ⟨H0, H1, H2, H4⟩
  imod (Transfers.batch_alloc' countersEmb (V d (cV L) (jV L)) (none : HIx 1) 32
    (after (F := F) d (cV L) (jV L) (edgeQ (wk L)) (fun y => slotW (winOf L act y)) edge) (sm := .dma cc0_scratch10.sem) (E := Set.univ)) $$ Hq with HB
  have hplaces : ∀ y : S2048.Idx, (slotW (winOf L act y)).toNat < 12800000 := fun y => hact _
  ihave HG := (show iprop(Batch countersEmb (V d (cV L) (jV L)) (.dma cc0_scratch10.sem) (none : HIx 1) 32
        (after (F := F) d (cV L) (jV L) (edgeQ (wk L)) (fun y => slotW (winOf L act y)) edge) 0 0
      ∗ ((b5).view.loc (V d (cV L) (jV L)) ↦{fullShare} g5)
      ∗ ((b4).view.loc (V d (cV L) (jV L)) ↦{fullShare} fun y => slotW (winOf L act y)) ∗ (edgeLoc d ↦{edgeQ (wk L)} edge))
      ⊢ started (F := F) d L (edgeQ (wk L)) (fun y => slotW (winOf L act y)) g5 edge 0 by
    unfold started
    rw [Transfers.pending_zero, before_all]
    iintro ⟨HB, H5, H4, He⟩
    isplitl [HB]; · iexact HB
    isplitl [H5 H4]
    · isplitl [H5]; · iexact H5
      iexact H4
    · iexact He) $$ [HB H5 H4 He]
  · isplitl [HB]; · iexact HB
    isplitl [H5]; · iexact H5
    isplitl [H4]; · iexact H4
    iexact He
  unfold tile_body.sl.prog.cont_1
  iapply (start_one d L (o := 0) (by decide) inb_S2048_S128_0 hplaces) $$ HG
  iintro HG
  rw [wp_pure]
  imodintro
  rw [wp_bind]
  iapply (wp_wand _ _ _) $$ [HG]
  · iapply (part2 d L (edgeQ (wk L)) (fun y => slotW (winOf L act y)) g5 edge hplaces) $$ HG
  iintro %_ HG
  rw [wp_bind]
  iapply (wp_wand _ _ _) $$ [HG HO]
  · iapply (part3 d L (edgeQ (wk L)) (fun y => slotW (winOf L act y)) g5 edge hplaces O W _ ?_) $$ [HG HO]
    rotate_left
    · isplitr; · iexact Hmw
      isplitl [HG]; · iexact HG
      iexact HO
    · intro p hp
      simp only [Finset.mem_insert] at hp
      rcases hp with rfl | rfl | rfl | rfl | rfl | hp
      iterate 5 exact .inr rfl
      exact .inl hp
  iintro %_ HG
  rw [wp_bind]
  iapply (wp_wand _ _ _) $$ [HG]
  · iapply (part4 d L (edgeQ (wk L)) (fun y => slotW (winOf L act y)) edge O W) $$ HG
  iintro %_ HG
  iapply (wait_one d L (u := 45056) (by decide) inb_S2048_S128_1408) $$ HG; iintro HG
  iapply (wait_one d L (u := 49152) (by decide) inb_S2048_S128_1536) $$ HG; iintro HG
  iapply (wait_one d L (u := 53248) (by decide) inb_S2048_S128_1664) $$ HG; iintro HG
  iapply (wait_one d L (u := 57344) (by decide) inb_S2048_S128_1792) $$ HG; iintro HG
  iapply (wait_one d L (u := 61440) (by decide) inb_S2048_S128_1920) $$ HG; iintro HG
  unfold waited
  icases HG with ⟨-, HB, %W', %hW', HO⟩
  imod (Transfers.batch_collect' (n := 2048) (N := 32) countersEmb (V d (cV L) (jV L)) (by decide)) $$ HB with ⟨HD, Hq⟩
  ihave HD := (Entails.of_eq (after_all (F := F) d (cV L) (jV L) (edgeQ (wk L)) (fun y => slotW (winOf L act y)) edge)) $$ HD
  icases HD with ⟨⟨H5, H4⟩, He⟩
  sl_for (inv2 (F := F) d L (fun y => moveW (winOf L act y)) (fun y => startW (winOf L hi y) (winOf L lo y)) (winOf L dum) (winOf L start)
    (gathered (fun y => slotW (winOf L act y)) edge) g7 g8 g9) $$ [H0 H1 H3 H6 H5 H7 H8 H9]
  case region =>
    intro k _
    exact trip2 d L _ _ _ _ _ _ _ _ k
  · unfold inv2
    rw [filled_zero, filled_zero, filled_zero]
    isplitl [H0]; · iexact H0
    isplitl [H1]; · iexact H1
    isplitl [H3]; · iexact H3
    isplitl [H6]; · iexact H6
    isplitl [H5]; · iexact H5
    isplitl [H7]; · iexact H7
    isplitl [H8]; · iexact H8
    iexact H9
  iintro %_ HI
  ihave HI := (show inv2 (F := F) d L (fun y => moveW (winOf L act y)) (fun y => startW (winOf L hi y) (winOf L lo y)) (winOf L dum) (winOf L start)
      (gathered (fun y => slotW (winOf L act y)) edge) g7 g8 g9 k0_t2_loop.trips ⟨⟩ ⊢ _ by
    unfold inv2
    rw [filled_all _ _ (by decide), filled_all _ _ (by decide), filled_all _ _ (by decide)]) $$ HI
  icases HI with ⟨H0, H1, H3, H6, H5, H7, H8, H9⟩
  sl_exec
  ihave Hn := (pts_out d L main_v5_0_scv (h := fun _ => rfl) hw f0 (nodeCol act lo hi start edge)
    (w := tile_body.sl.dma0_5 L act lo hi start edge) fun _ => rfl) $$ Hn
  ihave Hc := (pts_out d L main_v5_1_scv (h := fun _ => rfl) hw f1 (countCol lo hi dum)
    (w := tile_body.sl.dma0_6 L lo hi dum) fun _ => rfl) $$ Hc
  ihave Ht := (pts_out d L main_v5_2_scv (h := fun _ => rfl) hw f2 (stopCol act lo hi dum)
    (w := tile_body.sl.dma0_7 L act lo hi dum) fun _ => rfl) $$ Ht
  iapply (le_wp_ret _ _ _)
  isplitl [Ha Hl Hh Hd Hs He Hn Hc Ht]
  · isplitl [Ha]; · iexact Ha
    isplitl [Hl]; · iexact Hl
    isplitl [Hh]; · iexact Hh
    isplitl [Hd]; · iexact Hd
    isplitl [Hs]; · iexact Hs
    isplitl [He]; · iexact He
    isplitl [Hn]; · iexact Hn
    isplitl [Hc]; · iexact Hc
    iexact Ht
  isplitl [H0 H1 H2 H3 H4 H5 H6 H7 H8 H9 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexact Hbufs
  isplitl [Hq Hq0 Hq1 Hq2 Hq3 Hq4 Hq5 Hq6 Hq7 Hsems]
  · isplitl [Hq]; · iexact Hq
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hsems
  iexists _
  isplitr [HO]
  rotate_left
  · iexact HO
  ipureintro
  intro p hp
  simp only [Finset.mem_insert] at hp
  rcases hp with rfl | rfl | rfl | hp
  iterate 3 exact .inr rfl
  exact hW' p hp

end Tile

end Cert.KernelIdealRun
-- ==== Proof.KernelIdeal.Launch.lean ====
/- The launch: what the handshakes of the call carry, the program on the TensorCore, and the program's run
   from any memory whose actions name places of the edge table. -/
module

public import proofs.«01_k».proof.Proof.Kernel.Launch
public import proofs.«01_k».proof.Proof.KernelIdeal.Held
public import proofs.«01_k».proof.Proof.KernelIdeal.Tile

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The program's operations and the contents at each point -/

/-- The operations before the call: the ends of the ranges, the mask as words, the edge table flattened. -/
abbrev opsIn : List (HloOp τ sig (Elt F)) :=
  [StableHlo.unary main_arg2 main_v0 ((extractStridedSlice S65536 ![0] · slices_S65537_S65536_0) : (⟨S65537, .i32⟩ : BufTy).Contents (Elt F) → (⟨S65536, .i32⟩ : BufTy).Contents (Elt F)),
   StableHlo.unary main_arg2 main_v1 ((extractStridedSlice S65536 ![1] · slices_S65537_S65536_1) : (⟨S65537, .i32⟩ : BufTy).Contents (Elt F) → (⟨S65536, .i32⟩ : BufTy).Contents (Elt F)),
   StableHlo.unary main_arg3 main_v2 ((extui 32 · natLt_1_32) : (⟨S65536, .i1⟩ : BufTy).Contents (Elt F) → (⟨S65536, .i32⟩ : BufTy).Contents (Elt F)),
   StableHlo.unary main_arg4 main_v3 ((transpose S6400000x2 [1, 0] · transposes_S2x6400000_S6400000x2_1_0) : (⟨S2x6400000, .i32⟩ : BufTy).Contents (Elt F) → (⟨S6400000x2, .i32⟩ : BufTy).Contents (Elt F)),
   StableHlo.reshape main_v3 main_v4 (rfl : (.i32 : EltTy) = .i32) shapeCasts_S6400000x2_S12800000]

/-- The operations after the call: the words of the third result compared with zero. -/
abbrev opsOut : List (HloOp τ sig (Elt F)) :=
  [StableHlo.nullary main_c (constantI S_ 32 0#32),
   StableHlo.unary main_c main_v6 (broadcastInDim S65536 ![] bcast_S_S65536 : (⟨S_, .i32⟩ : BufTy).Contents (Elt F) → (⟨S65536, .i32⟩ : BufTy).Contents (Elt F)),
   StableHlo.binary main_v5_2 main_v6 main_v7 (cmpi .ne : (⟨S65536, .i32⟩ : BufTy).Contents (Elt F) → (⟨S65536, .i32⟩ : BufTy).Contents (Elt F) → (⟨S65536, .i1⟩ : BufTy).Contents (Elt F)),
   StableHlo.unary main_v7 main_v8 (id : (⟨S65536, .i1⟩ : BufTy).Contents (Elt F) → (⟨S65536, .i1⟩ : BufTy).Contents (Elt F))]

theorem main_eq (d : Dev nD) :
    main (F := F) d = (StableHlo.seq opsIn >>= fun _ => (sc (F := F)).run d 0 >>= fun _ => StableHlo.seq opsOut >>= fun _ => pure ⟨⟩) := by
  simp only [StableHlo.seq_bind_seqK]
  rfl

/-- The contents at the call, and at the end. -/
def atCall (d : Dev nD) : Valuation τ sig (Elt F) := StableHlo.after opsIn fun b => m (d, b)
def atEnd (d : Dev nD) : Valuation τ sig (Elt F) := StableHlo.after opsOut (called (atCall m d))

/-- What the proof asks of the launch memory: that every action names a place of the edge table. -/
def Fits : Prop := ∀ (d : Dev nD) (i : S65536.Idx), (slotW ((atCall m d (ref main_arg5) : Col) i)).toNat < 12800000

/-! ## What the handshakes carry -/

theorem nSub_zero : (K (F := F)).nSub 0 = 16 := rfl
theorem nCore_zero : (K (F := F)).nCore 0 = 2 := rfl

/-- What worker `w` is handed, -/
abbrev given (d : Dev nD) (w : Fin 32) : sProp 𝕄 :=
  taskRes d w (atCall m d (ref main_arg5)) (atCall m d (ref main_v0)) (atCall m d (ref main_v1)) (atCall m d (ref main_v2))
    (atCall m d (ref main_arg1)) (atCall m d (ref main_v4)) (atCall m d (ref main_v5_0)) (atCall m d (ref main_v5_1)) (atCall m d (ref main_v5_2))
/-- and what it hands back: its windows of the results hold the results. -/
abbrev made (d : Dev nD) (w : Fin 32) : sProp 𝕄 :=
  taskRes d w (atCall m d (ref main_arg5)) (atCall m d (ref main_v0)) (atCall m d (ref main_v1)) (atCall m d (ref main_v2))
    (atCall m d (ref main_arg1)) (atCall m d (ref main_v4))
    (nodeCol (atCall m d (ref main_arg5)) (atCall m d (ref main_v0)) (atCall m d (ref main_v1)) (atCall m d (ref main_arg1)) (atCall m d (ref main_v4)))
    (countCol (atCall m d (ref main_v0)) (atCall m d (ref main_v1)) (atCall m d (ref main_v2)))
    (stopCol (atCall m d (ref main_arg5)) (atCall m d (ref main_v0)) (atCall m d (ref main_v1)) (atCall m d (ref main_v2)))

/-- A core is handed what its sixteen tiles are, and hands back what they do. -/
def P : (K (F := F)).Pay (nD := nD) (Val := Elt F) (Name := ℕ) (U := UU) where
  st := fun q d c => match q with
    | 0 => bigSep Finset.univ fun s : Fin 16 => given m d (wk (place (Fin.cast nCore_zero c) s))
  dn := fun q d c => match q with
    | 0 => bigSep Finset.univ fun s : Fin 16 => made m d (wk (place (Fin.cast nCore_zero c) s))
  go := fun q d c s => match q with
    | 0 => given m d (wk (place (Fin.cast nCore_zero c) (Fin.cast nSub_zero s)))
  td := fun q d c s => match q with
    | 0 => made m d (wk (place (Fin.cast nCore_zero c) (Fin.cast nSub_zero s)))
  x := fun _ _ => iprop(emp)

instance P_storable : (P (F := F) m).IsStorable where
  st q d c := match q with
    | 0 => (inferInstance : BI.Storable (upEmb : UEmb _ 𝕄)
      (bigSep Finset.univ fun s : Fin 16 => given m d (wk (place (Fin.cast nCore_zero c) s))))
  dn q d c := match q with
    | 0 => (inferInstance : BI.Storable (upEmb : UEmb _ 𝕄)
      (bigSep Finset.univ fun s : Fin 16 => made m d (wk (place (Fin.cast nCore_zero c) s))))
  go q d c s := match q with
    | 0 => (inferInstance : BI.Storable (upEmb : UEmb _ 𝕄) (given m d (wk (place (Fin.cast nCore_zero c) (Fin.cast nSub_zero s)))))
  td q d c s := match q with
    | 0 => (inferInstance : BI.Storable (upEmb : UEmb _ 𝕄) (made m d (wk (place (Fin.cast nCore_zero c) (Fin.cast nSub_zero s)))))

/-! ## The tiles -/

/-- What a tile runs for the call. -/
theorem defs₀_tile (c : Fin τ.nSC) (s : Fin τ.nSub) :
    defs₀ (F := F) (.scVector c s) 0 ()
      = SparseCore.onTile hcore0 hsub0 (fun c s => cc0__graph_step (place c s)
          (Memref.whole main_arg1_scv) (Memref.isWhole_whole _) (Memref.whole main_v0_scv) (Memref.isWhole_whole _)
          (Memref.whole main_v1_scv) (Memref.isWhole_whole _) (Memref.whole main_v2_scv) (Memref.isWhole_whole _)
          (Memref.whole main_v4_scv) (Memref.isWhole_whole _) (Memref.whole main_arg5_scv) (Memref.isWhole_whole _)
          (Memref.whole main_v5_0_scv) (Memref.isWhole_whole _) (Memref.whole main_v5_1_scv) (Memref.isWhole_whole _)
          (Memref.whole main_v5_2_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          cc0_scratch10 cc0_scoped0 cc0_scoped1 cc0_scoped2 cc0_scoped3 cc0_scoped4 cc0_scoped5 cc0_scoped6 cc0_scoped7) ⟨⟩ c s := rfl

/-- A tile's waits that were of no call are of this call or of none. -/
theorem waits_widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr
  · ipureintro; intro p hp; rcases hW p hp with h | h
    · exact Or.inl h
    · exact Or.inr (Or.inl h)
  · iexact HO

set_option maxRecDepth 16384 in
/-- Each tile does its task. -/
theorem tileObl (hF : (K (F := F)).Facts) (hfit : Fits m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (place ⟨_, hci.1⟩ ⟨_, hci.2⟩) hF _ _ _ _ _ _ _ _ _ (hfit d) O W hO).trans (wp_mono frame _ _ fun _ => waits_widen)

/-- What a core is handed is what its tiles are. -/
theorem vecSplit : (K (F := F)).VecSplit' (P m) 0 := by
  intro d c
  show (bigSep Finset.univ fun s : Fin 16 => given m d (wk (place (Fin.cast nCore_zero c) s)) : sProp 𝕄) ⊢ |={Set.univ}=> iprop(
      (bigSep Finset.univ fun s : Fin 16 => given m d (wk (place (Fin.cast nCore_zero c) s)))
      ∗ ((bigSep Finset.univ fun s : Fin 16 => made m d (wk (place (Fin.cast nCore_zero c) s)))
          -∗ bigSep Finset.univ fun s : Fin 16 => made m d (wk (place (Fin.cast nCore_zero c) s))))
  iintro H; imodintro
  isplitl [H]; · iexact H
  iintro H; iexact H

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  unfold u₀
  iintro Hu
  ihave H := (ownU_pair (initOf (K (F := F)).hsCells (K (F := F)).hsToks) (1 : Counters)) $$ Hu
  icases H with ⟨HH, -⟩
  imodintro
  isplitl [HH]; · iexact HH
  rw [hx, show (bigSep Finset.univ fun _ : Dev nD => iprop(emp)) = (iprop(emp) : sProp 𝕄) from bigSep_emp_const _]
  isplitr <;> iempintro

/-! ## The program on the TensorCore -/

/-- What the call takes is the arrays at the call, and what it gives back is them with the results. -/
theorem st_eq (d : Dev nD) : (bigSep Finset.univ fun c : Fin ((K (F := F)).nCore 0) => (P m).st 0 d c) = (callRes d (atCall m d) : sProp 𝕄) :=
  (wholeRes_tiles d _ _ _ _ _ _ _ _ _).symm
theorem dn_eq (d : Dev nD) : (bigSep Finset.univ fun c : Fin ((K (F := F)).nCore 0) => (P m).dn 0 d c)
    = (wholeRes d (atCall m d (ref main_arg5)) (atCall m d (ref main_v0)) (atCall m d (ref main_v1)) (atCall m d (ref main_v2))
      (atCall m d (ref main_arg1)) (atCall m d (ref main_v4))
      (nodeCol (atCall m d (ref main_arg5)) (atCall m d (ref main_v0)) (atCall m d (ref main_v1)) (atCall m d (ref main_arg1)) (atCall m d (ref main_v4)))
      (countCol (atCall m d (ref main_v0)) (atCall m d (ref main_v1)) (atCall m d (ref main_v2)))
      (stopCol (atCall m d (ref main_arg5)) (atCall m d (ref main_v0)) (atCall m d (ref main_v1)) (atCall m d (ref main_v2))) : sProp 𝕄) :=
  (wholeRes_tiles d _ _ _ _ _ _ _ _ _).symm

abbrev FIN (d : Dev nD) : sProp 𝕄 := StableHlo.held (SparseCore.T d) (StableHlo.tcRefs τ sig) (atEnd m d)

theorem in_sub : ∀ op ∈ (opsIn : List (HloOp τ sig (Elt F))), op.bufs ⊆ StableHlo.tcRefs τ sig :=
  List.forall_iff_forall_mem.mp ⟨StableHlo.unary_bufs_sub .., StableHlo.unary_bufs_sub .., StableHlo.unary_bufs_sub .., StableHlo.unary_bufs_sub .., StableHlo.reshape_bufs_sub ..⟩
theorem out_sub : ∀ op ∈ (opsOut : List (HloOp τ sig (Elt F))), op.bufs ⊆ StableHlo.tcRefs τ sig :=
  List.forall_iff_forall_mem.mp ⟨StableHlo.nullary_bufs_sub .., StableHlo.unary_bufs_sub .., StableHlo.binary_bufs_sub .., StableHlo.unary_bufs_sub ..⟩
theorem in_fresh : ∀ op ∈ (opsIn : List (HloOp τ sig (Elt F))), op.fresh = ∅ :=
  List.forall_iff_forall_mem.mp ⟨rfl, rfl, rfl, rfl, rfl⟩
theorem out_fresh : ∀ op ∈ (opsOut : List (HloOp τ sig (Elt F))), op.fresh = ∅ :=
  List.forall_iff_forall_mem.mp ⟨rfl, rfl, rfl, rfl⟩

/-- The program on a device's TensorCore: the operations before the call, the call, those after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄)
      = StableHlo.held (SparseCore.T d) (StableHlo.tcRefs τ sig) (fun b => m (d, b)) from
    (Pipeline.unscopedBufs_held d fun b => m (d, b)).trans (by rw [held_all]), main_eq]
  iintro ⟨#Hctx, Hst, ⟨Hb, Hheld, Hts, -⟩, -⟩
  iapply (StableHlo.wp_seq 𝒱 none Set.univ d (StableHlo.tcRefs τ sig) _ opsIn in_sub in_fresh _) $$ [Hb Hheld]
  · isplitl [Hb] <;> iassumption
  iintro ⟨Hb, Hheld⟩
  rw [wp_bind]
  ihave H := (show (StableHlo.held d.tc (StableHlo.tcRefs τ sig) (StableHlo.after opsIn fun b => m (d, b)) : sProp 𝕄) ⊢ _ from
    held_take d (atCall m d)) $$ Hheld
  icases H with ⟨Hcall, Hoth⟩
  iapply ((K (F := F)).wp_run (D (F := F)) 𝒱 (EH := EH) (P := P m) κ d 0) $$ [Hst Hcall Hoth Hb Hts]
  isplitr; · iexact Hctx
  isplitl [Hst]; · iexact Hst
  isplitl [Hcall]
  · rw [st_eq]; iexact Hcall
  iintro ⟨Hst, Hdn⟩
  ihave Hdn := (Entails.of_eq (dn_eq m d)) $$ Hdn
  ihave Hheld := (held_called d (atCall m d)) $$ [Hdn Hoth]
  · isplitl [Hdn] <;> iassumption
  iapply (StableHlo.wp_seq 𝒱 none Set.univ d (StableHlo.tcRefs τ sig) _ opsOut out_sub out_fresh _) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

/-- A device's buffers hold what the end says. -/
def fq (d : Dev nD) (s' : Phys nD τ sig (Elt F)) : Prop := ∀ b : Ref sig .tc, s'.mem.mem (d, ref b) = atEnd m d (ref b)

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (StableHlo.tcRefs τ sig)) $$ [HSI H]
  · isplitl [HSI]; · iexact HSI
    iexact H
  ipureintro
  exact fun b => h _ (StableHlo.devRef_mem_tcRefs b)

/-! ## The program's run -/

/-- Every buffer of every TensorCore holds what the end says, and every semaphore is at zero. -/
def Ends : PUnit × MemSt nD τ sig (Elt F) → Prop := fun r =>
  (∀ (d : Dev nD) (b : Ref sig .tc), r.2.mem (d, ref b) = atEnd m d (ref b)) ∧ r.2.sem = fun _ => 0

/-- From a memory whose actions name places of the edge table, every execution of the program comes to its
    end, with the contents `atEnd`. -/
theorem run_main [∀ e, Nonempty (Elt F e)] (hfit : Fits m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hfit)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m)
    (fun _ h hz => ⟨h, hz⟩)

end Cert.KernelIdealRun

end
-- ==== Proof.KernelIdeal.Run.lean ====
/- What the program's run leaves: the arguments as they were, and each result as a function of the arguments.
   The frame is that run read at the arguments. -/
module

public import proofs.«01_k».proof.Proof.Kernel.Run
public import proofs.«01_k».proof.Defs
public import proofs.«01_k».proof.Proof.KernelIdeal.Launch
public import proofs.«01_k».proof.Proof.Range
public import proofs.«01_k».proof.Proof.Step

@[expose] public section

noncomputable section

namespace Cert.KernelIdealRun

open Cert.KernelIdeal Cert.KernelIdeal.Gen Cert.GraphStep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

section Values

variable [FloatOps F] (m : (ℓ : Loc nD τ sig) → Buf (Elt F) ℓ) (d : Dev nD)

/-- The program's arguments. -/
abbrev arguments : List (Ref sig .tc) := [main_arg0, main_arg1, main_arg2, main_arg3, main_arg4, main_arg5]

/-- Before the call every argument holds what it held. -/
theorem call_arg {b : Ref sig .tc} (hb : b ∈ arguments) : atCall m d (ref b) = m (d, ref b) :=
  StableHlo.after_of_writes_sub (W := [main_v0, main_v1, main_v2, main_v3, main_v4]) opsIn _
    (StableHlo.forall_writes_sub_of_map rfl) ((by decide : ∀ b ∈ arguments, b ∉ [main_v0, main_v1, main_v2, main_v3, main_v4]) b hb)

/-- After the call every array that the last operations do not write holds what the call left. -/
theorem end_kept {b : Ref sig .tc} (hb : b ∉ [main_c, main_v6, main_v7, main_v8]) : atEnd m d (ref b) = called (atCall m d) (ref b) :=
  StableHlo.after_of_writes_sub (W := [main_c, main_v6, main_v7, main_v8]) opsOut _ (StableHlo.forall_writes_sub_of_map rfl) hb

/-- At the end every argument holds what it held. -/
theorem end_arg {b : Ref sig .tc} (hb : b ∈ arguments) : atEnd m d (ref b) = m (d, ref b) := by
  rw [end_kept m d ((by decide : ∀ b ∈ arguments, b ∉ [main_c, main_v6, main_v7, main_v8]) b hb),
    called_ne _ ((by decide : ∀ b ∈ arguments, b ≠ main_v5_0) b hb) ((by decide : ∀ b ∈ arguments, b ≠ main_v5_1) b hb)
      ((by decide : ∀ b ∈ arguments, b ≠ main_v5_2) b hb), call_arg m d hb]

/-- The lower and the upper ends of the entries' ranges of starts, the mask as words, and the edge table
    transposed and flattened, of the arguments. -/
def loOf : Col := extractStridedSlice S65536 ![0] (m (d, ref main_arg2) : IVec S65537 32) slices_S65537_S65536_0
def hiOf : Col := extractStridedSlice S65536 ![1] (m (d, ref main_arg2) : IVec S65537 32) slices_S65537_S65536_1
def dumOf : Col := extui 32 (m (d, ref main_arg3) : IVec S65536 1) natLt_1_32
def edgeOf : Tab :=
  shapeCast S12800000 (transpose S6400000x2 [1, 0] (m (d, ref main_arg4) : IVec S2x6400000 32) transposes_S2x6400000_S6400000x2_1_0)
    shapeCasts_S6400000x2_S12800000

theorem call_lo : atCall m d (ref main_v0) = loOf m d := by
  unfold atCall opsIn; after_results_simp <;> rfl
theorem call_hi : atCall m d (ref main_v1) = hiOf m d := by
  unfold atCall opsIn; after_results_simp <;> rfl
theorem call_dum : atCall m d (ref main_v2) = dumOf m d := by
  unfold atCall opsIn; after_results_simp <;> rfl
theorem call_edge : atCall m d (ref main_v4) = edgeOf m d := by
  unfold atCall opsIn; after_results_simp <;> rfl

/-- The first result: the nodes after the step. -/
theorem end_node : atEnd m d (ref main_v5_0)
    = nodeCol (m (d, ref main_arg5)) (loOf m d) (hiOf m d) (m (d, ref main_arg1)) (edgeOf m d) := by
  rw [end_kept m d (by decide), called_node, call_arg m d (b := main_arg5) (by decide), call_arg m d (b := main_arg1) (by decide),
    call_lo, call_hi, call_edge]

/-- The second result: the numbers of steps. -/
theorem end_count : atEnd m d (ref main_v5_1) = countCol (loOf m d) (hiOf m d) (dumOf m d) := by
  rw [end_kept m d (by decide), called_count, call_lo, call_hi, call_dum]

/-- The third result: whether the walks are over. -/
theorem end_stop : atEnd m d (ref main_v8)
    = cmpi .ne (stopCol (m (d, ref main_arg5)) (loOf m d) (hiOf m d) (dumOf m d)) (broadcastInDim S65536 ![] bcast_S_S65536 (constantI S_ 32 0#32)) := by
  have h : atEnd m d (ref main_v8)
      = cmpi .ne (called (atCall m d) (ref main_v5_2) : Col) (broadcastInDim S65536 ![] bcast_S_S65536 (constantI S_ 32 0#32)) := by
    unfold atEnd opsOut; after_results_simp <;> rfl
  rw [h, called_stop, call_arg m d (b := main_arg5) (by decide), call_lo, call_hi, call_dum]

end Values

/-- Every action is -1 or the number of an edge. -/
def Actions (m : (ℓ : Loc nD τ sig) → Buf (Elt F) ℓ) : Prop :=
  ∀ (d : Dev nD) (i : S65536.Idx), ((m (d, ref main_arg5) : Col) i) = 4294967295#32 ∨ ((m (d, ref main_arg5) : Col) i).toNat < 6400000

/-- Then the places the tiles gather from are inside the edge table. -/
theorem fits_of_actions [FloatOps F] {m : (ℓ : Loc nD τ sig) → Buf (Elt F) ℓ} (h : Actions m) : Fits m := fun d i => by
  rw [call_arg m d (b := main_arg5) (by decide)]
  have hs := slotW_toNat (h d i)
  omega

/-- What a run leaves: the results as functions of the arguments, the arguments as they were, the counters at zero. -/
def Leaves [FloatOps F] (m : (ℓ : Loc nD τ sig) → Buf (Elt F) ℓ) (r : PUnit × MemSt nD τ sig (Elt F)) : Prop :=
  (∀ d : Dev nD,
    r.2.mem (d, ref main_v5_0) = nodeCol (m (d, ref main_arg5)) (loOf m d) (hiOf m d) (m (d, ref main_arg1)) (edgeOf m d)
    ∧ r.2.mem (d, ref main_v5_1) = countCol (loOf m d) (hiOf m d) (dumOf m d)
    ∧ r.2.mem (d, ref main_v8)
        = cmpi .ne (stopCol (m (d, ref main_arg5)) (loOf m d) (hiOf m d) (dumOf m d)) (broadcastInDim S65536 ![] bcast_S_S65536 (constantI S_ 32 0#32))
    ∧ ∀ b ∈ arguments, r.2.mem (d, ref b) = m (d, ref b))
  ∧ r.2.sem = fun _ => 0

/-- From any memory whose actions are in range, the program's run leaves the results. -/
theorem run_leaves [FloatOps F] [∀ e, Nonempty (Elt F e)] (m : (ℓ : Loc nD τ sig) → Buf (Elt F) ℓ) (ρ : Dev nD → PrngReg) (h : Actions m) :
    θ_run (Cert.KernelIdeal.defs (F := F)) (Cert.KernelIdeal.threads (F := F)) ⟨m, fun _ => 0, ρ⟩ (Leaves m) :=
  (θ_run _ _ _).mono
    (fun r hr => ⟨fun d => ⟨(hr.1 d _).trans (end_node m d), (hr.1 d _).trans (end_count m d), (hr.1 d _).trans (end_stop m d),
      fun b hb => (hr.1 d b).trans (end_arg m d hb)⟩, hr.2⟩)
    (run_main m ρ (fits_of_actions h))

/-- The precondition puts the actions in range. -/
theorem actions_of_pre {m : (ℓ : Loc nD τ sig) → Buf (Elt Ideal) ℓ} (h : Cert.Pre_KernelIdeal m) : Actions m :=
  fun d i => (range_of_pre (h d) i).1

/-- The frame: the program runs, the arguments end unchanged and every counter at zero. -/
theorem frame : Cert.quiescent_KernelIdeal := fun m ρ hpre =>
  (θ_run _ _ _).mono
    (fun _ hr => ⟨fun c => ⟨(hr.1 c).2.2.2 main_arg0 (by decide), (hr.1 c).2.2.2 main_arg1 (by decide), (hr.1 c).2.2.2 main_arg2 (by decide),
      (hr.1 c).2.2.2 main_arg3 (by decide), (hr.1 c).2.2.2 main_arg4 (by decide), (hr.1 c).2.2.2 main_arg5 (by decide)⟩, hr.2⟩)
    (run_leaves m ρ (actions_of_pre hpre))

end Cert.KernelIdealRun

end
-- ==== Proof.Reference.lean ====
/- The reference's results, entry by entry, are the step's words of the entry. -/
module

public import proofs.«01_k».proof.Proof.Gen.ReferenceIdeal
public import proofs.«01_k».proof.Proof.Gen.ReferenceIdeal.Run
public import proofs.«01_k».proof.Proof.Range
public import proofs.«01_k».proof.Proof.Step

@[expose] public section

noncomputable section

namespace Cert.ReferenceRun

open Cert.ReferenceIdeal Cert.ReferenceIdeal.Gen Cert.GraphStep
open Idealize.ShloMosaic Idealize.ShloMosaic.StableHlo.Predicate

/-- A column of one number. -/
abbrev all (v : BitVec 32) : IVec S65536 32 := broadcastInDim S65536 ![] bcast_S_S65536 (constantI S_ 32 v)
/-- The lower and the upper ends of the entries' ranges of starts. -/
abbrev lows (a2 : IVec S65537 32) : IVec S65536 32 := extractStridedSlice S65536 ![0] a2 slices_S65537_S65536_0
abbrev highs (a2 : IVec S65537 32) : IVec S65536 32 := extractStridedSlice S65536 ![1] a2 slices_S65537_S65536_1
/-- Which entries have a start, and which actions follow an edge. -/
abbrev hasStart (a2 : IVec S65537 32) : IVec S65536 1 := cmpi .sgt (subi (highs a2) (lows a2)) (all 0#32)
abbrev follows (a5 : IVec S65536 32) : IVec S65536 1 := noti (cmpi .eq a5 (all 4294967295#32))

/-- The second row of the edge table. -/
abbrev targets (a4 : IVec S2x6400000 32) : IVec S6400000 32 :=
  shapeCast _ (extractStridedSlice S1x6400000 ![1, 0] a4 slices_S2x6400000_S1x6400000_1_0) shapeCasts_S1x6400000_S6400000

/-- The targets of the actions' edges, edge 0 standing in for the stop action. -/
def targetsTaken (a4 : IVec S2x6400000 32) (a5 : IVec S65536 32) : IVec S65536 32 :=
  filledTake gather_S6400000_S65536x1_S65536_n_0_n_n_0_1_1 bcast_S65536_S65536x1_0 reducesTo_S65536x1_S65536_d1 h_S_ (targets a4)
    (select (follows a5) a5 (all 0#32)) (all 0#32) (all 6400000#32) (all 2147483648#32)
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 6399999#32)))
    (constantI S_ 1 1#1)

/-- The first starts of the entries, start 0 standing in where there is none. -/
def startsTaken (a1 : IVec S65536 32) (a2 : IVec S65537 32) : IVec S65536 32 :=
  filledTake gather_S65536_S65536x1_S65536_n_0_n_n_0_1_1 bcast_S65536_S65536x1_0 reducesTo_S65536x1_S65536_d1 h_S_ a1
    (select (hasStart a2) (lows a2) (all 0#32)) (all 0#32) (all 65536#32) (all 2147483648#32)
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 65535#32)))
    (constantI S_ 1 1#1)

/-- The reference's first result, in these terms. -/
def nodes (a1 : IVec S65536 32) (a2 : IVec S65537 32) (a4 : IVec S2x6400000 32) (a5 : IVec S65536 32) : IVec S65536 32 :=
  select (follows a5) (targetsTaken a4 a5)
    (select (hasStart a2) (select (hasStart a2) (startsTaken a1 a2) (all 4294967295#32)) (all 4294967295#32))

/-- The reference's second result. -/
def counts (a2 : IVec S65537 32) (a3 : IVec S65536 1) : IVec S65536 32 :=
  addi (all 0#32) (extui 32 (noti (ori (noti (hasStart a2)) a3)) natLt_1_32)

/-- The reference's third result. -/
def stops (a2 : IVec S65537 32) (a3 : IVec S65536 1) (a5 : IVec S65536 32) : IVec S65536 1 :=
  ori (ori (ori (noti (hasStart a2)) a3) (cmpi .eq a5 (all 4294967295#32))) (cmpi .sge (counts a2 a3) (all 10#32))

/-- An action's target, at an entry, is the flattened and transposed table's word at the action's place. -/
theorem targetsTaken_apply (a4 : IVec S2x6400000 32) (a5 : IVec S65536 32) (p : Fin 65536)
    (h : a5 (Shape.Idx.ofFin p) = 4294967295#32 ∨ (a5 (Shape.Idx.ofFin p)).toNat < 6400000)
    (h₁ : S2x6400000.Transposes [1, 0] ⟨2, ![6400000, 2]⟩) (h₂ : (⟨2, ![6400000, 2]⟩ : Shape).ShapeCasts ⟨1, ![12800000]⟩)
    (j : (⟨1, ![12800000]⟩ : Shape).Idx) (hj : (j 0 : Nat) = (slotW (a5 (Shape.Idx.ofFin p))).toNat) :
    targetsTaken a4 a5 (Shape.Idx.ofFin p)
      = shapeCast ⟨1, ![12800000]⟩ (transpose ⟨2, ![6400000, 2]⟩ [1, 0] a4 h₁) h₂ j := by
  have hs := slotW_toNat h
  have ht := filledTake_apply gather_S6400000_S65536x1_S65536_n_0_n_n_0_1_1 bcast_S65536_S65536x1_0 reducesTo_S65536x1_S65536_d1 h_S_
    (targets a4) (select (follows a5) a5 (all 0#32)) (all 0#32) (all 6400000#32) (all 2147483648#32)
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 6399999#32)))
    (constantI S_ 1 1#1) rfl rfl rfl rfl (by decide) (by decide) (fun _ => rfl) (fun _ => rfl) (fun _ => rfl) p rfl hs.2
  exact ht.trans (table_apply a4 h₁ h₂ slices_S2x6400000_S1x6400000_1_0 shapeCasts_S1x6400000_S6400000 j _ (hj.trans hs.1)).symm

/-- Where an entry has a start and its first start is its own number, the start taken is its own. -/
theorem startsTaken_apply (a1 : IVec S65536 32) (a2 : IVec S65537 32) (p : Fin 65536)
    (h : hasStart a2 (Shape.Idx.ofFin p) = 1#1) (hlo : lows a2 (Shape.Idx.ofFin p) = BitVec.ofNat 32 p) :
    startsTaken a1 a2 (Shape.Idx.ofFin p) = a1 (Shape.Idx.ofFin p) := by
  have hix : select (hasStart a2) (lows a2) (all 0#32) (Shape.Idx.ofFin p) = BitVec.ofNat 32 p := by
    show Scalar.select (hasStart a2 (Shape.Idx.ofFin p)) (lows a2 (Shape.Idx.ofFin p)) _ = _
    rw [h, hlo]
    rfl
  have hv : (select (hasStart a2) (lows a2) (all 0#32) (Shape.Idx.ofFin p)).toNat = p := by
    rw [hix, BitVec.toNat_ofNat]
    exact Nat.mod_eq_of_lt (p.isLt.trans (by decide))
  have ht := filledTake_apply gather_S65536_S65536x1_S65536_n_0_n_n_0_1_1 bcast_S65536_S65536x1_0 reducesTo_S65536x1_S65536_d1 h_S_
    a1 (select (hasStart a2) (lows a2) (all 0#32)) (all 0#32) (all 65536#32) (all 2147483648#32)
    (broadcastInDim S65536x1 ![] bcast_S_S65536x1 (constantI S_ 32 0#32))
    (broadcastInDim S65536x1 ![0, 1] bcast_S1x1_S65536x1_0_1 (broadcastInDim S1x1 ![1] bcast_S1_S1x1_1 (constantI S1 32 65535#32)))
    (constantI S_ 1 1#1) rfl rfl rfl rfl (by decide) (by decide) (fun _ => rfl) (fun _ => rfl) (fun _ => rfl) p rfl (hv ▸ p.isLt)
  refine ht.trans (congrArg a1 (congrArg Shape.Idx.ofFin (Fin.ext hv)))

/-- The first result at an entry in range. -/
theorem nodes_apply (a1 : IVec S65536 32) (a2 : IVec S65537 32) (a4 : IVec S2x6400000 32) (a5 : IVec S65536 32) (p : Fin 65536)
    (h : a5 (Shape.Idx.ofFin p) = 4294967295#32 ∨ (a5 (Shape.Idx.ofFin p)).toNat < 6400000)
    (h' : hasStart a2 (Shape.Idx.ofFin p) = 1#1 → lows a2 (Shape.Idx.ofFin p) = BitVec.ofNat 32 p)
    (h₁ : S2x6400000.Transposes [1, 0] ⟨2, ![6400000, 2]⟩) (h₂ : (⟨2, ![6400000, 2]⟩ : Shape).ShapeCasts ⟨1, ![12800000]⟩)
    (j : (⟨1, ![12800000]⟩ : Shape).Idx) (hj : (j 0 : Nat) = (slotW (a5 (Shape.Idx.ofFin p))).toNat) :
    nodes a1 a2 a4 a5 (Shape.Idx.ofFin p)
      = nodeW (moveW (a5 (Shape.Idx.ofFin p))) (startW (highs a2 (Shape.Idx.ofFin p)) (lows a2 (Shape.Idx.ofFin p)))
          (a1 (Shape.Idx.ofFin p)) (shapeCast ⟨1, ![12800000]⟩ (transpose ⟨2, ![6400000, 2]⟩ [1, 0] a4 h₁) h₂ j) := by
  rw [nodeW_eq]
  show Scalar.select (~~~ stopBit (a5 (Shape.Idx.ofFin p))) (targetsTaken a4 a5 (Shape.Idx.ofFin p))
    (Scalar.select (hasStart a2 (Shape.Idx.ofFin p)) (Scalar.select (hasStart a2 (Shape.Idx.ofFin p)) (startsTaken a1 a2 (Shape.Idx.ofFin p)) 4294967295#32)
      4294967295#32)
    = Scalar.select _ _ (Scalar.select (hasStart a2 (Shape.Idx.ofFin p)) _ _)
  rw [targetsTaken_apply a4 a5 p h h₁ h₂ j hj]
  congr 1
  rcases BitVec.eq_zero_or_eq_one (hasStart a2 (Shape.Idx.ofFin p)) with k | k
  · rw [k]; rfl
  · rw [startsTaken_apply a1 a2 p k (h' k), k]; rfl

/-- The second result at an entry. -/
theorem counts_apply (a2 : IVec S65537 32) (a3 : IVec S65536 1) (i : S65536.Idx) :
    counts a2 a3 i = countW (startW (highs a2 i) (lows a2 i)) ((a3 i).setWidth 32) := (countW_eq _ _ _).symm

/-- The third result at an entry. -/
theorem stops_apply (a2 : IVec S65537 32) (a3 : IVec S65536 1) (a5 : IVec S65536 32) (i : S65536.Idx) :
    stops a2 a3 a5 i = IntOp.cmpi .ne (stopW (moveW (a5 i)) (startW (highs a2 i) (lows a2 i)) ((a3 i).setWidth 32)) 0#32 :=
  (stopW_eq _ _ _ _).symm

section Run

variable {F : FTy → Type} [FloatOps F] (m : (ℓ : Loc nD τ sig) → Buf (Elt F) ℓ) (ρ : Dev nD → PrngReg)

/-- The reference's run: the three results of the arguments, and the arguments as they were. -/
theorem run : θ_run (defs (F := F)) (onTc (τ := τ) (main (F := F))) ⟨m, fun _ => 0, ρ⟩ fun r => ∀ c : Dev nD,
      r.2.mem ((c.tc : Thread nD τ).loc main_v25) = nodes (m ((c.tc : Thread nD τ).loc main_arg1)) (m ((c.tc : Thread nD τ).loc main_arg2))
        (m ((c.tc : Thread nD τ).loc main_arg4)) (m ((c.tc : Thread nD τ).loc main_arg5))
      ∧ r.2.mem ((c.tc : Thread nD τ).loc main_v28) = counts (m ((c.tc : Thread nD τ).loc main_arg2)) (m ((c.tc : Thread nD τ).loc main_arg3))
      ∧ r.2.mem ((c.tc : Thread nD τ).loc main_v31) = stops (m ((c.tc : Thread nD τ).loc main_arg2)) (m ((c.tc : Thread nD τ).loc main_arg3))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans rfl, (h c).2.1.trans rfl, (h c).2.2.1.trans rfl, (h c).2.2.2⟩)
    (Cert.ReferenceIdeal.Value.run m ρ)

end Run

end Cert.ReferenceRun

end
-- ==== Proof.Equal.lean ====
/- The two programs compute the same: on inputs in range the kernel's results are the reference's. -/
module

public import proofs.«01_k».proof.Defs
public import proofs.«01_k».proof.Proof.KernelIdeal.Run
public import proofs.«01_k».proof.Proof.Reference

@[expose] public section

noncomputable section

namespace Cert.GraphStep

open Cert.KernelIdeal Cert.KernelIdeal.Gen Cert.KernelIdealRun
open Idealize.ShloMosaic

variable {m : (ℓ : Loc nD τ sig) → Buf (Elt Ideal) ℓ} (d : Dev nD)

/-- The kernel's nodes are the reference's, of arguments in range. -/
theorem node_eq (hpre : Cert.Pre_KernelIdeal m) :
    Cert.ReferenceRun.nodes (m (d, ref main_arg1)) (m (d, ref main_arg2)) (m (d, ref main_arg4)) (m (d, ref main_arg5))
      = nodeCol (m (d, ref main_arg5)) (loOf m d) (hiOf m d) (m (d, ref main_arg1)) (edgeOf m d) := by
  funext i
  obtain ⟨p, rfl⟩ : ∃ p : Fin 65536, i = Shape.Idx.ofFin p := ⟨i 0, funext fun b => match b with | ⟨0, _⟩ => rfl⟩
  have hr := range_of_pre (hpre d) (Shape.Idx.ofFin p)
  have hs := slotW_toNat hr.1
  refine Cert.ReferenceRun.nodes_apply _ _ _ _ p hr.1 hr.2 transposes_S2x6400000_S6400000x2_1_0 shapeCasts_S6400000x2_S12800000
    (slot (slotW ((m (d, ref main_arg5) : Col) (Shape.Idx.ofFin p)))) (Nat.mod_eq_of_lt ?_)
  exact hs.1.trans_lt (by have h2 := hs.2; omega)

/-- The kernel's numbers of steps are the reference's. -/
theorem count_eq : Cert.ReferenceRun.counts (m (d, ref main_arg2)) (m (d, ref main_arg3)) = countCol (loOf m d) (hiOf m d) (dumOf m d) :=
  funext fun i => Cert.ReferenceRun.counts_apply _ _ i

/-- The kernel's ends of walks are the reference's. -/
theorem stop_eq : Cert.ReferenceRun.stops (m (d, ref main_arg2)) (m (d, ref main_arg3)) (m (d, ref main_arg5))
    = cmpi .ne (stopCol (m (d, ref main_arg5)) (loOf m d) (hiOf m d) (dumOf m d)) (broadcastInDim S65536 ![] bcast_S_S65536 (constantI S_ 32 0#32)) :=
  funext fun i => Cert.ReferenceRun.stops_apply _ _ _ i

/-- The value claim: both programs end with the reference's three results of the same arguments. -/
theorem algebraic : Cert.algebraic_KernelIdeal_ReferenceIdeal := by
  intro m g m' g' hpre hargs
  refine ⟨fun c => Cert.ReferenceRun.nodes (m (c, ref main_arg1)) (m (c, ref main_arg2)) (m (c, ref main_arg4)) (m (c, ref main_arg5)),
    fun c => Cert.ReferenceRun.counts (m (c, ref main_arg2)) (m (c, ref main_arg3)),
    fun c => Cert.ReferenceRun.stops (m (c, ref main_arg2)) (m (c, ref main_arg3)) (m (c, ref main_arg5)), ?_, ?_⟩
  · exact (θ_run _ _ _).mono
      (fun _ hr c => ⟨(hr.1 c).1.trans (node_eq c hpre).symm, (hr.1 c).2.1.trans (count_eq c).symm, (hr.1 c).2.2.1.trans (stop_eq c).symm,
        (hr.1 c).2.2.2 main_arg0 (by decide), (hr.1 c).2.2.2 main_arg1 (by decide), (hr.1 c).2.2.2 main_arg2 (by decide),
        (hr.1 c).2.2.2 main_arg3 (by decide), (hr.1 c).2.2.2 main_arg4 (by decide), (hr.1 c).2.2.2 main_arg5 (by decide)⟩)
      (run_leaves m g (actions_of_pre hpre))
  · refine (θ_run _ _ _).mono (fun r hr c => ?_) (Cert.ReferenceRun.run m' g')
    obtain ⟨_, h1, h2, h3, h4, h5⟩ := hargs c
    have hc := hr c
    refine ⟨hc.1.trans ?_, hc.2.1.trans ?_, hc.2.2.1.trans ?_, hc.2.2.2⟩
    · rw [h1, h2, h4, h5]
    · rw [h2, h3]
    · rw [h2, h3, h5]

/-- The reference's frame. -/
theorem reference_frame : Cert.quiescent_ReferenceIdeal := fun m ρ _ =>
  (θ_run _ _ _).mono (fun r h => ⟨fun c => (h c).2.2.2, sem_eq_zero_of_no_sems (by decide) r.2⟩) (Cert.ReferenceRun.run m ρ)

/-- The reference's frame on inputs in range. -/
theorem reference_frame_in_range : Cert.quiescent_ReferenceIdeal_pre_in_range := fun m ρ _ => reference_frame m ρ trivial

end Cert.GraphStep

end
-- ==== Proof.lean ====
module

public import proofs.«01_k».proof.Defs
public import proofs.«01_k».proof.Proof.Kernel.Run
public import proofs.«01_k».proof.Proof.KernelIdeal.Run
public import proofs.«01_k».proof.Proof.Equal

@[expose] public section

noncomputable section

namespace Cert.Proof

/-- Everything the certificate claims. The witnesses of the programs' stated facts come first. -/
theorem claim : Cert.Claim :=
  ⟨Cert.Kernel.Gen.facts, Cert.KernelIdeal.Gen.facts, Cert.ReferenceIdeal.Gen.facts, Cert.Pre_in_range.Gen.facts,
    Cert.KernelRun.frame, Cert.KernelIdealRun.frame, Cert.GraphStep.reference_frame, Cert.GraphStep.reference_frame_in_range,
    trivial, Cert.GraphStep.algebraic⟩

end Cert.Proof

end
